-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E38AA3B#32 ((8⁻¹ * (Real.log 2)⁻¹ : ℝ) : EReal)

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v33)) (v4 : (c : Dev Cert.KernelIdeal.nD) → Buf (Elt Ideal) ((c.tc : Thread Cert.KernelIdeal.nD Cert.KernelIdeal.τ).loc Cert.KernelIdeal.main_v35)) (v5 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_v35) = v4 c
          ∧ r.2.mem ((c.tc : Thread Cert.KernelIdeal.nD Cert.KernelIdeal.τ).loc Cert.KernelIdeal.main_v36) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v24_0) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S80x16x64 : Shape := ⟨3, ![80, 16, 64]⟩
abbrev S3x40960x16x64 : Shape := ⟨4, ![3, 40960, 16, 64]⟩
abbrev S3x16 : Shape := ⟨2, ![3, 16]⟩
abbrev S3x80x16x64 : Shape := ⟨4, ![3, 80, 16, 64]⟩
abbrev S3x16x80 : Shape := ⟨3, ![3, 16, 80]⟩
abbrev S_ : Shape := ⟨0, ![]⟩

class Facts : Prop where
  bitsLt_bf16_f32 : FTy.bits .bf16 < FTy.bits .f32
  reducesTo_S3x80x16x64_S3x16_d1_3 : S3x80x16x64.ReducesTo [1, 3] S3x16
  h_S_ : 0 < S_.numel
  bcast_S_S3x16 : S_.BroadcastsInDim S3x16 (![] : Fin 0 → Fin S3x16.rank)

variable [Facts]

def fn_part1 {F : FTy → Type} [FloatOps F] (main_v7 : IVec S3x16 1) (main_v9 : IVec S3x16 1) (main_v16 : IVec S3x16 1) : IVec S3x16 1 :=
  let main_v17 : IVec S3x16 1 := andi main_v9 main_v16
  let main_v18 : IVec S3x16 1 := andi main_v7 main_v17
  main_v18

def fn {F : FTy → Type} [FloatOps F] (main_arg0 : FVec F S80x16x64 .bf16) (main_arg1 : FVec F S3x40960x16x64 .fp8e4m3) (main_arg2 : FVec F S3x16 .f32) (main_arg3 : FVec F S3x40960x16x64 .fp8e4m3) (main_arg4 : FVec F S3x16 .f32) (main_arg5 : FVec F S3x80x16x64 .bf16) (main_arg6 : FVec F S3x16x80 .f32) (main_arg7 : FVec F S3x80x16x64 .bf16) : IVec S3x16 1 :=
  let main_v0 : FVec F S3x80x16x64 .f32 := (extf .f32 · bitsLt_bf16_f32) main_arg7
  let main_v1 : FVec F S3x80x16x64 .f32 := Host.absf main_v0
  let main_cst : FVec F S_ .f32 := constant S_ .f32 0xFF800000#32
  let main_v2 : FVec F S3x16 .f32 := (fun x v => Host.reduce FloatOps.maximumf x v reducesTo_S3x80x16x64_S3x16_d1_3 h_S_) main_v1 main_cst
  let main_cst_0 : FVec F S_ .f32 := constant S_ .f32 0x00000000#32
  let main_v3 : FVec F S3x16 .f32 := broadcastInDim S3x16 ![] bcast_S_S3x16 main_cst_0
  let main_v4 : IVec S3x16 1 := cmpf .oge main_arg2 main_v3
  let main_cst_1 : FVec F S_ .f32 := constant S_ .f32 0x7F800000#32
  let main_v5 : FVec F S3x16 .f32 := broadcastInDim S3x16 ![] bcast_S_S3x16 main_cst_1
  let main_v6 : IVec S3x16 1 := cmpf .olt main_arg2 main_v5
  let main_v7 : IVec S3x16 1 := andi main_v4 main_v6
  let main_cst_2 : FVec F S_ .f32 := constant S_ .f32 0x7F7F0000#32
  let main_v8 : FVec F S3x16 .f32 := broadcastInDim S3x16 ![] bcast_S_S3x16 main_cst_2
  let main_v9 : IVec S3x16 1 := cmpf .ole main_v2 main_v8
  let main_cst_3 : FVec F S_ .f32 := constant S_ .f32 0x00000000#32
  let main_v10 : FVec F S3x16 .f32 := broadcastInDim S3x16 ![] bcast_S_S3x16 main_cst_3
  let main_v11 : IVec S3x16 1 := cmpf .oeq main_v2 main_v10
  let main_cst_4 : FVec F S_ .f32 := constant S_ .f32 0x37924925#32
  let main_v12 : FVec F S3x16 .f32 := broadcastInDim S3x16 ![] bcast_S_S3x16 main_cst_4
  let main_v13 : FVec F S3x16 .f32 := mulf main_v2 main_v12
  let main_cst_5 : FVec F S_ .f32 := constant S_ .f32 0x00800000#32
  let main_v14 : FVec F S3x16 .f32 := broadcastInDim S3x16 ![] bcast_S_S3x16 main_cst_5
  let main_v15 : IVec S3x16 1 := cmpf .oge main_v13 main_v14
  let main_v16 : IVec S3x16 1 := ori main_v11 main_v15
  fn_part1 (F := F) main_v7 main_v9 main_v16
-- ==== Kernel.lean ====
abbrev S80x16x64 : Shape := ⟨3, ![80, 16, 64]⟩
abbrev S3x40960x16x64 : Shape := ⟨4, ![3, 40960, 16, 64]⟩
abbrev S3x16 : Shape := ⟨2, ![3, 16]⟩
abbrev S3x80x16x64 : Shape := ⟨4, ![3, 80, 16, 64]⟩
abbrev S3x16x80 : Shape := ⟨3, ![3, 16, 80]⟩
abbrev S3x16x64x40960 : Shape := ⟨4, ![3, 16, 64, 40960]⟩
abbrev S48x64x40960 : Shape := ⟨3, ![48, 64, 40960]⟩
abbrev S3x16x64x80 : Shape := ⟨4, ![3, 16, 64, 80]⟩
abbrev S48x64x80 : Shape := ⟨3, ![48, 64, 80]⟩
abbrev S16x64x80 : Shape := ⟨3, ![16, 64, 80]⟩
abbrev S16x80x64 : Shape := ⟨3, ![16, 80, 64]⟩
abbrev S_ : Shape := ⟨0, ![]⟩
abbrev S48x80x1 : Shape := ⟨3, ![48, 80, 1]⟩
abbrev S48x80x64 : Shape := ⟨3, ![48, 80, 64]⟩
abbrev S48x1x128 : Shape := ⟨3, ![48, 1, 128]⟩
abbrev S48x80x128 : Shape := ⟨3, ![48, 80, 128]⟩
abbrev S1x64x80 : Shape := ⟨3, ![1, 64, 80]⟩
abbrev S1x80x1 : Shape := ⟨3, ![1, 80, 1]⟩
abbrev S1x80x64 : Shape := ⟨3, ![1, 80, 64]⟩
abbrev S1x1x128 : Shape := ⟨3, ![1, 1, 128]⟩
abbrev S1x80x128 : Shape := ⟨3, ![1, 80, 128]⟩
abbrev S64x80 : Shape := ⟨2, ![64, 80]⟩
abbrev S80 : Shape := ⟨1, ![80]⟩
abbrev S1x80 : Shape := ⟨2, ![1, 80]⟩
abbrev S1 : Shape := ⟨1, ![1]⟩
abbrev S1x1 : Shape := ⟨2, ![1, 1]⟩
abbrev S1x256 : Shape := ⟨2, ![1, 256]⟩
abbrev S80x64 : Shape := ⟨2, ![80, 64]⟩
abbrev S1x128 : Shape := ⟨2, ![1, 128]⟩
abbrev S128x80 : Shape := ⟨2, ![128, 80]⟩
abbrev S80x128 : Shape := ⟨2, ![80, 128]⟩
abbrev S80x1 : Shape := ⟨2, ![80, 1]⟩
abbrev S48x1x1 : Shape := ⟨3, ![48, 1, 1]⟩
abbrev S48 : Shape := ⟨1, ![48]⟩
abbrev S48x1 : Shape := ⟨2, ![48, 1]⟩
abbrev S48x3 : Shape := ⟨2, ![48, 3]⟩
abbrev S1x64x4096 : Shape := ⟨3, ![1, 64, 4096]⟩
abbrev S1x64x512 : Shape := ⟨3, ![1, 64, 512]⟩
abbrev S64x512 : Shape := ⟨2, ![64, 512]⟩
abbrev S80x512 : Shape := ⟨2, ![80, 512]⟩

abbrev nBuf : Space → Nat
  | .hbm => 55
  | .vmem => 40
  | .smem => 1
  | _ => 0

abbrev bufTy : (tb : Table) → Fin (tcTables nBuf tb) → BufTy
  | .hbm, ⟨0, _⟩ => ⟨S80x16x64, .bf16⟩
  | .hbm, ⟨1, _⟩ => ⟨S3x40960x16x64, .fp8e4m3⟩
  | .hbm, ⟨2, _⟩ => ⟨S3x16, .f32⟩
  | .hbm, ⟨3, _⟩ => ⟨S3x40960x16x64, .fp8e4m3⟩
  | .hbm, ⟨4, _⟩ => ⟨S3x16, .f32⟩
  | .hbm, ⟨5, _⟩ => ⟨S3x80x16x64, .bf16⟩
  | .hbm, ⟨6, _⟩ => ⟨S3x16x80, .f32⟩
  | .hbm, ⟨7, _⟩ => ⟨S3x80x16x64, .bf16⟩
  | .hbm, ⟨8, _⟩ => ⟨S3x16x64x40960, .fp8e4m3⟩
  | .hbm, ⟨9, _⟩ => ⟨S48x64x40960, .fp8e4m3⟩
  | .hbm, ⟨10, _⟩ => ⟨S3x16x64x40960, .fp8e4m3⟩
  | .hbm, ⟨11, _⟩ => ⟨S48x64x40960, .fp8e4m3⟩
  | .hbm, ⟨12, _⟩ => ⟨S3x16x64x80, .bf16⟩
  | .hbm, ⟨13, _⟩ => ⟨S48x64x80, .bf16⟩
  | .hbm, ⟨14, _⟩ => ⟨S3x16x64x80, .bf16⟩
  | .hbm, ⟨15, _⟩ => ⟨S48x64x80, .bf16⟩
  | .hbm, ⟨16, _⟩ => ⟨S16x64x80, .bf16⟩
  | .hbm, ⟨17, _⟩ => ⟨S16x80x64, .bf16⟩
  | .hbm, ⟨18, _⟩ => ⟨S_, .bf16⟩
  | .hbm, ⟨19, _⟩ => ⟨S16x64x80, .bf16⟩
  | .hbm, ⟨20, _⟩ => ⟨S16x64x80, .bf16⟩
  | .hbm, ⟨21, _⟩ => ⟨S48x80x1, .f32⟩
  | .hbm, ⟨22, _⟩ => ⟨S48x64x80, .fp8e5m2⟩
  | .hbm, ⟨23, _⟩ => ⟨S48x80x64, .fp8e5m2⟩
  | .hbm, ⟨24, _⟩ => ⟨S48x64x80, .bf16⟩
  | .hbm, ⟨25, _⟩ => ⟨S48x1x128, .f32⟩
  | .hbm, ⟨26, _⟩ => ⟨S48x80x128, .f32⟩
  | .hbm, ⟨27, _⟩ => ⟨S48x80x128, .f32⟩
  | .hbm, ⟨28, _⟩ => ⟨S48x1x1, .f32⟩
  | .hbm, ⟨29, _⟩ => ⟨S48, .f32⟩
  | .hbm, ⟨30, _⟩ => ⟨S48, .f32⟩
  | .hbm, ⟨31, _⟩ => ⟨S48, .f32⟩
  | .hbm, ⟨32, _⟩ => ⟨S48, .f32⟩
  | .hbm, ⟨33, _⟩ => ⟨S_, .f32⟩
  | .hbm, ⟨34, _⟩ => ⟨S48, .f32⟩
  | .hbm, ⟨35, _⟩ => ⟨S48, .f32⟩
  | .hbm, ⟨36, _⟩ => ⟨S48x1, .f32⟩
  | .hbm, ⟨37, _⟩ => ⟨S48x1, .f32⟩
  | .hbm, ⟨38, _⟩ => ⟨S48x1, .f32⟩
  | .hbm, ⟨39, _⟩ => ⟨S48x3, .f32⟩
  | .hbm, ⟨40, _⟩ => ⟨S48x64x80, .f32⟩
  | .hbm, ⟨41, _⟩ => ⟨S48x64x40960, .bf16⟩
  | .hbm, ⟨42, _⟩ => ⟨S48x64x40960, .bf16⟩
  | .hbm, ⟨43, _⟩ => ⟨S3x16x64x80, .f32⟩
  | .hbm, ⟨44, _⟩ => ⟨S3x80x16x64, .f32⟩
  | .hbm, ⟨45, _⟩ => ⟨S_, .f32⟩
  | .hbm, ⟨46, _⟩ => ⟨S80x16x64, .f32⟩
  | .hbm, ⟨47, _⟩ => ⟨S80x16x64, .bf16⟩
  | .hbm, ⟨48, _⟩ => ⟨S3x16x64x40960, .bf16⟩
  | .hbm, ⟨49, _⟩ => ⟨S3x40960x16x64, .bf16⟩
  | .hbm, ⟨50, _⟩ => ⟨S3x16x64x40960, .bf16⟩
  | .hbm, ⟨51, _⟩ => ⟨S3x40960x16x64, .bf16⟩
  | .hbm, ⟨52, _⟩ => ⟨S3x16x64x80, .fp8e5m2⟩
  | .hbm, ⟨53, _⟩ => ⟨S3x80x16x64, .fp8e5m2⟩
  | .hbm, ⟨54, _⟩ => ⟨S3x16, .f32⟩
  | .local _ .vmem, ⟨0, _⟩ => ⟨S1x64x80, .bf16⟩
  | .local _ .vmem, ⟨1, _⟩ => ⟨S1x64x80, .bf16⟩
  | .local _ .vmem, ⟨2, _⟩ => ⟨S1x64x80, .bf16⟩
  | .local _ .vmem, ⟨3, _⟩ => ⟨S1x64x80, .bf16⟩
  | .local _ .vmem, ⟨4, _⟩ => ⟨S1x80x1, .f32⟩
  | .local _ .vmem, ⟨5, _⟩ => ⟨S1x80x1, .f32⟩
  | .local _ .vmem, ⟨6, _⟩ => ⟨S1x64x80, .fp8e5m2⟩
  | .local _ .vmem, ⟨7, _⟩ => ⟨S1x64x80, .fp8e5m2⟩
  | .local _ .vmem, ⟨8, _⟩ => ⟨S1x80x64, .fp8e5m2⟩
  | .local _ .vmem, ⟨9, _⟩ => ⟨S1x80x64, .fp8e5m2⟩
  | .local _ .vmem, ⟨10, _⟩ => ⟨S1x64x80, .bf16⟩
  | .local _ .vmem, ⟨11, _⟩ => ⟨S1x64x80, .bf16⟩
  | .local _ .vmem, ⟨12, _⟩ => ⟨S1x1x128, .f32⟩
  | .local _ .vmem, ⟨13, _⟩ => ⟨S1x1x128, .f32⟩
  | .local _ .vmem, ⟨14, _⟩ => ⟨S1x80x128, .f32⟩
  | .local _ .vmem, ⟨15, _⟩ => ⟨S1x80x128, .f32⟩
  | .local _ .vmem, ⟨16, _⟩ => ⟨S1x80x128, .f32⟩
  | .local _ .vmem, ⟨17, _⟩ => ⟨S1x80x128, .f32⟩
  | .local _ .vmem, ⟨18, _⟩ => ⟨S1x80x64, .bf16⟩
  | .local _ .vmem, ⟨19, _⟩ => ⟨S1x80x64, .bf16⟩
  | .local _ .vmem, ⟨20, _⟩ => ⟨S1x64x80, .bf16⟩
  | .local _ .vmem, ⟨21, _⟩ => ⟨S1x64x80, .bf16⟩
  | .local _ .vmem, ⟨22, _⟩ => ⟨S1x80x64, .fp8e5m2⟩
  | .local _ .vmem, ⟨23, _⟩ => ⟨S1x80x64, .fp8e5m2⟩
  | .local _ .vmem, ⟨24, _⟩ => ⟨S1x64x80, .bf16⟩
  | .local _ .vmem, ⟨25, _⟩ => ⟨S1x64x80, .bf16⟩
  | .local _ .vmem, ⟨26, _⟩ => ⟨S1x80x128, .f32⟩
  | .local _ .vmem, ⟨27, _⟩ => ⟨S1x80x128, .f32⟩
  | .local _ .vmem, ⟨28, _⟩ => ⟨S1x80x128, .f32⟩
  | .local _ .vmem, ⟨29, _⟩ => ⟨S1x80x128, .f32⟩
  | .local _ .vmem, ⟨30, _⟩ => ⟨S1x64x4096, .fp8e4m3⟩
  | .local _ .vmem, ⟨31, _⟩ => ⟨S1x64x4096, .fp8e4m3⟩
  | .local _ .vmem, ⟨32, _⟩ => ⟨S1x64x4096, .fp8e4m3⟩
  | .local _ .vmem, ⟨33, _⟩ => ⟨S1x64x4096, .fp8e4m3⟩
  | .local _ .vmem, ⟨34, _⟩ => ⟨S1x64x80, .f32⟩
  | .local _ .vmem, ⟨35, _⟩ => ⟨S1x64x80, .f32⟩
  | .local _ .vmem, ⟨36, _⟩ => ⟨S1x64x4096, .bf16⟩
  | .local _ .vmem, ⟨37, _⟩ => ⟨S1x64x4096, .bf16⟩
  | .local _ .vmem, ⟨38, _⟩ => ⟨S1x64x4096, .bf16⟩
  | .local _ .vmem, ⟨39, _⟩ => ⟨S1x64x4096, .bf16⟩
  | .local _ .smem, ⟨0, _⟩ => ⟨S48x3, .f32⟩
  | _, _ => ⟨S80x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc1_sem10_1 : DmaSem sig := 38
abbrev cc1_sem11_0 : DmaSem sig := 39
abbrev cc1_sem11_1 : DmaSem sig := 40

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x80 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x80 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x80 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x80x64 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x80 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x80x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x80x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![48, 10], ![false, false]⟩

def k1_off1 (i : grid1.Coords) : Fin 2 → Nat :=
  let arg0 : BitVec 32 := BitVec.ofNat 32 (i 0).val
  let v0 : Index := Scalar.indexCast arg0
  let c0 : Index := 0#32
  ![v0.toNat, 0]
def k1_off2 (i : grid1.Coords) : Fin 2 → Nat :=
  let arg0 : BitVec 32 := BitVec.ofNat 32 (i 0).val
  let v3 : Index := Scalar.indexCast arg0
  let c1 : Index := 1#32
  ![v3.toNat, 1]
def k1_off3 (i : grid1.Coords) : Fin 2 → Nat :=
  let arg0 : BitVec 32 := BitVec.ofNat 32 (i 0).val
  let v313 : Index := Scalar.indexCast arg0
  let c2 : Index := 2#32
  ![v313.toNat, 2]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .smem S48x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x80x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x80 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x80x64 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x80 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x80x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x80x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x64x4096 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x64x4096 .fp8e4m3 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x64x80 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x64x4096 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x64x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== KernelIdeal.lean ====
variable {F : FTy → Type} [FloatOps F] [Named F]
def κ : String → Option EReal := fun
  | "log2e" => some (((Real.log 2)⁻¹ : ℝ) : EReal)
  | "sm_log2e" => some ((8⁻¹ * (Real.log 2)⁻¹ : ℝ) : EReal)
  | _ => none
-- ==== ReferenceIdeal.lean ====
abbrev S80x16x64 : Shape := ⟨3, ![80, 16, 64]⟩
abbrev S3x40960x16x64 : Shape := ⟨4, ![3, 40960, 16, 64]⟩
abbrev S3x16 : Shape := ⟨2, ![3, 16]⟩
abbrev S3x80x16x64 : Shape := ⟨4, ![3, 80, 16, 64]⟩
abbrev S3x16x80 : Shape := ⟨3, ![3, 16, 80]⟩
abbrev S_ : Shape := ⟨0, ![]⟩
abbrev S3x1x16x1 : Shape := ⟨4, ![3, 1, 16, 1]⟩
abbrev S3x16x1x1 : Shape := ⟨4, ![3, 16, 1, 1]⟩
abbrev S16x3x40960x80 : Shape := ⟨4, ![16, 3, 40960, 80]⟩
abbrev S3x16x80x40960 : Shape := ⟨4, ![3, 16, 80, 40960]⟩
abbrev S3x16x80x1 : Shape := ⟨4, ![3, 16, 80, 1]⟩
abbrev S3x80x16 : Shape := ⟨3, ![3, 80, 16]⟩
abbrev S3x16x64x40960 : Shape := ⟨4, ![3, 16, 64, 40960]⟩
abbrev S16x64x3x40960 : Shape := ⟨4, ![16, 64, 3, 40960]⟩
abbrev S3x16x64x80 : Shape := ⟨4, ![3, 16, 64, 80]⟩

abbrev nBuf : Space → Nat
  | .hbm => 108
  | .vmem => 7
  | .smem => 0
  | _ => 0

abbrev bufTy : (tb : Table) → Fin (tcTables nBuf tb) → BufTy
  | .hbm, ⟨0, _⟩ => ⟨S80x16x64, .bf16⟩
  | .hbm, ⟨1, _⟩ => ⟨S3x40960x16x64, .fp8e4m3⟩
  | .hbm, ⟨2, _⟩ => ⟨S3x16, .f32⟩
  | .hbm, ⟨3, _⟩ => ⟨S3x40960x16x64, .fp8e4m3⟩
  | .hbm, ⟨4, _⟩ => ⟨S3x16, .f32⟩
  | .hbm, ⟨5, _⟩ => ⟨S3x80x16x64, .bf16⟩
  | .hbm, ⟨6, _⟩ => ⟨S3x16x80, .f32⟩
  | .hbm, ⟨7, _⟩ => ⟨S3x80x16x64, .bf16⟩
  | .hbm, ⟨8, _⟩ => ⟨S3x80x16x64, .f32⟩
  | .hbm, ⟨9, _⟩ => ⟨S3x80x16x64, .f32⟩
  | .hbm, ⟨10, _⟩ => ⟨S_, .f32⟩
  | .hbm, ⟨11, _⟩ => ⟨S3x16, .f32⟩
  | .hbm, ⟨12, _⟩ => ⟨S_, .f32⟩
  | .hbm, ⟨13, _⟩ => ⟨S3x16, .f32⟩
  | .hbm, ⟨14, _⟩ => ⟨S3x16, .f32⟩
  | .hbm, ⟨15, _⟩ => ⟨S3x16, .f32⟩
  | .hbm, ⟨16, _⟩ => ⟨S_, .f32⟩
  | .hbm, ⟨17, _⟩ => ⟨S_, .f32⟩
  | .hbm, ⟨18, _⟩ => ⟨S3x16, .f32⟩
  | .hbm, ⟨19, _⟩ => ⟨S3x16, .f32⟩
  | .hbm, ⟨20, _⟩ => ⟨S3x16, .f32⟩
  | .hbm, ⟨21, _⟩ => ⟨S_, .f32⟩
  | .hbm, ⟨22, _⟩ => ⟨S3x16, .f32⟩
  | .hbm, ⟨23, _⟩ => ⟨S3x16, .f32⟩
  | .hbm, ⟨24, _⟩ => ⟨S_, .f32⟩
  | .hbm, ⟨25, _⟩ => ⟨S3x16, .f32⟩
  | .hbm, ⟨26, _⟩ => ⟨S3x16, .i1⟩
  | .hbm, ⟨27, _⟩ => ⟨S_, .f32⟩
  | .hbm, ⟨28, _⟩ => ⟨S_, .f32⟩
  | .hbm, ⟨29, _⟩ => ⟨S3x16, .f32⟩
  | .hbm, ⟨30, _⟩ => ⟨S3x16, .f32⟩
  | .hbm, ⟨31, _⟩ => ⟨S_, .f32⟩
  | .hbm, ⟨32, _⟩ => ⟨S3x16, .f32⟩
  | .hbm, ⟨33, _⟩ => ⟨S3x16, .f32⟩
  | .hbm, ⟨34, _⟩ => ⟨S3x16, .f32⟩
  | .hbm, ⟨35, _⟩ => ⟨S_, .f32⟩
  | .hbm, ⟨36, _⟩ => ⟨S3x16, .f32⟩
  | .hbm, ⟨37, _⟩ => ⟨S3x16, .f32⟩
  | .hbm, ⟨38, _⟩ => ⟨S3x1x16x1, .f32⟩
  | .hbm, ⟨39, _⟩ => ⟨S3x80x16x64, .f32⟩
  | .hbm, ⟨40, _⟩ => ⟨S3x80x16x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S3x80x16x64, .f32⟩
  | .hbm, ⟨45, _⟩ => ⟨S3x80x16x64, .f32⟩
  | .hbm, ⟨46, _⟩ => ⟨S_, .f32⟩
  | .hbm, ⟨47, _⟩ => ⟨S3x80x16x64, .f32⟩
  | .hbm, ⟨48, _⟩ => ⟨S3x80x16x64, .f32⟩
  | .hbm, ⟨49, _⟩ => ⟨S3x80x16x64, .fp8e5m2⟩
  | .hbm, ⟨50, _⟩ => ⟨S3x80x16x64, .bf16⟩
  | .hbm, ⟨51, _⟩ => ⟨S3x40960x16x64, .bf16⟩
  | .hbm, ⟨52, _⟩ => ⟨S3x40960x16x64, .bf16⟩
  | .hbm, ⟨53, _⟩ => ⟨S_, .f32⟩
  | .hbm, ⟨54, _⟩ => ⟨S3x16, .f32⟩
  | .hbm, ⟨55, _⟩ => ⟨S3x16, .f32⟩
  | .hbm, ⟨56, _⟩ => ⟨S3x16x1x1, .f32⟩
  | .hbm, ⟨57, _⟩ => ⟨S16x3x40960x80, .f32⟩
  | .hbm, ⟨58, _⟩ => ⟨S3x16x80x40960, .f32⟩
  | .hbm, ⟨59, _⟩ => ⟨S3x16x80x40960, .f32⟩
  | .hbm, ⟨60, _⟩ => ⟨S3x16x80x40960, .f32⟩
  | .hbm, ⟨61, _⟩ => ⟨S3x16x80x1, .f32⟩
  | .hbm, ⟨62, _⟩ => ⟨S3x16x80x40960, .f32⟩
  | .hbm, ⟨63, _⟩ => ⟨S3x16x80x40960, .f32⟩
  | .hbm, ⟨64, _⟩ => ⟨S3x16x80x40960, .f32⟩
  | .hbm, ⟨65, _⟩ => ⟨S3x16, .f32⟩
  | .hbm, ⟨66, _⟩ => ⟨S3x16x1x1, .f32⟩
  | .hbm, ⟨67, _⟩ => ⟨S3x16x80x40960, .f32⟩
  | .hbm, ⟨68, _⟩ => ⟨S3x16x80x40960, .f32⟩
  | .hbm, ⟨69, _⟩ => ⟨S3x16x80x40960, .f32⟩
  | .hbm, ⟨70, _⟩ => ⟨S3x80x16x64, .f32⟩
  | .hbm, ⟨71, _⟩ => ⟨S3x1x16x1, .f32⟩
  | .hbm, ⟨72, _⟩ => ⟨S3x80x16x64, .f32⟩
  | .hbm, ⟨73, _⟩ => ⟨S3x80x16x64, .f32⟩
  | .hbm, ⟨74, _⟩ => ⟨S3x80x16x64, .f32⟩
  | .hbm, ⟨75, _⟩ => ⟨S3x80x16x64, .f32⟩
  | .hbm, ⟨76, _⟩ => ⟨S_, .f32⟩
  | .hbm, ⟨77, _⟩ => ⟨S3x80x16, .f32⟩
  | .hbm, ⟨78, _⟩ => ⟨S3x16x80, .f32⟩
  | .hbm, ⟨79, _⟩ => ⟨S3x16x80x1, .f32⟩
  | .hbm, ⟨80, _⟩ => ⟨S3x16x80x40960, .f32⟩
  | .hbm, ⟨81, _⟩ => ⟨S3x16x80x40960, .f32⟩
  | .hbm, ⟨82, _⟩ => ⟨S3x16x80x40960, .f32⟩
  | .hbm, ⟨83, _⟩ => ⟨S3x16x80x40960, .bf16⟩
  | .hbm, ⟨84, _⟩ => ⟨S3x1x16x1, .f32⟩
  | .hbm, ⟨85, _⟩ => ⟨S3x16x80x40960, .bf16⟩
  | .hbm, ⟨86, _⟩ => ⟨S3x16x64x40960, .f32⟩
  | .hbm, ⟨87, _⟩ => ⟨S3x40960x16x64, .f32⟩
  | .hbm, ⟨88, _⟩ => ⟨S3x40960x16x64, .f32⟩
  | .hbm, ⟨89, _⟩ => ⟨S3x40960x16x64, .f32⟩
  | .hbm, ⟨90, _⟩ => ⟨S3x40960x16x64, .bf16⟩
  | .hbm, ⟨91, _⟩ => ⟨S16x64x3x40960, .f32⟩
  | .hbm, ⟨92, _⟩ => ⟨S3x40960x16x64, .f32⟩
  | .hbm, ⟨93, _⟩ => ⟨S_, .f32⟩
  | .hbm, ⟨94, _⟩ => ⟨S3x40960x16x64, .f32⟩
  | .hbm, ⟨95, _⟩ => ⟨S3x40960x16x64, .f32⟩
  | .hbm, ⟨96, _⟩ => ⟨S3x40960x16x64, .bf16⟩
  | .hbm, ⟨97, _⟩ => ⟨S_, .f32⟩
  | .hbm, ⟨98, _⟩ => ⟨S3x16, .f32⟩
  | .hbm, ⟨99, _⟩ => ⟨S3x16, .f32⟩
  | .hbm, ⟨100, _⟩ => ⟨S3x1x16x1, .f32⟩
  | .hbm, ⟨101, _⟩ => ⟨S3x16x64x80, .f32⟩
  | .hbm, ⟨102, _⟩ => ⟨S3x80x16x64, .f32⟩
  | .hbm, ⟨103, _⟩ => ⟨S3x80x16x64, .f32⟩
  | .hbm, ⟨104, _⟩ => ⟨S3x80x16x64, .f32⟩
  | .hbm, ⟨105, _⟩ => ⟨S_, .f32⟩
  | .hbm, ⟨106, _⟩ => ⟨S80x16x64, .f32⟩
  | .hbm, ⟨107, _⟩ => ⟨S80x16x64, .bf16⟩
  | .local _ .vmem, ⟨0, _⟩ => ⟨S3x80x16x64, .f32⟩
  | .local _ .vmem, ⟨1, _⟩ => ⟨S3x40960x16x64, .fp8e4m3⟩
  | .local _ .vmem, ⟨2, _⟩ => ⟨S3x40960x16x64, .fp8e4m3⟩
  | .local _ .vmem, ⟨3, _⟩ => ⟨S3x80x16x64, .fp8e5m2⟩
  | .local _ .vmem, ⟨4, _⟩ => ⟨S3x80x16x64, .bf16⟩
  | .local _ .vmem, ⟨5, _⟩ => ⟨S3x40960x16x64, .bf16⟩
  | .local _ .vmem, ⟨6, _⟩ => ⟨S3x40960x16x64, .bf16⟩
  | _, _ => ⟨S80x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev main_v24_3 : Ref sig .tc := ⟨.hbm, 52, rfl⟩
abbrev main_cst_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x80x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x40960x16x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x40960x16x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x80x16x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x80x16x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x40960x16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x40960x16x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRun.lean ====
module

public import proofs.«01_k».proof.Proof.Gen.KernelIdeal.Frame

@[expose] public section

set_option maxRecDepth 16384

noncomputable section

/-! The run of the kernel's program: every result array ends as the last host line leaves it, as a function
    of the arrays before it (`W5`), and every argument array ends as launched. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's program terminates from any memory with zero counters, and in every final state the six
    results are what the last stretch of host lines computes (`W5`), the arguments are as launched and every
    counter is zero. -/
theorem run : θ_run defs (onTc (τ := τ) (main (F := F))) ⟨m, fun _ => 0, ρ⟩ (fun r => (∀ c : Dev nD,
      r.2.mem ((c.tc : Thread nD τ).loc main_v29) = W5 m ρ c (Proc.devRef .tc main_v29)
      ∧ r.2.mem ((c.tc : Thread nD τ).loc main_v27) = W5 m ρ c (Proc.devRef .tc main_v27)
      ∧ r.2.mem ((c.tc : Thread nD τ).loc main_v31) = W5 m ρ c (Proc.devRef .tc main_v31)
      ∧ r.2.mem ((c.tc : Thread nD τ).loc main_v33) = W5 m ρ c (Proc.devRef .tc main_v33)
      ∧ r.2.mem ((c.tc : Thread nD τ).loc main_v35) = W5 m ρ c (Proc.devRef .tc main_v35)
      ∧ r.2.mem ((c.tc : Thread nD τ).loc main_v36) = W5 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v29 (by decide)),
       h c _ (mem_uc main_v27 (by decide)),
       h c _ (mem_uc main_v31 (by decide)),
       h c _ (mem_uc main_v33 (by decide)),
       h c _ (mem_uc main_v35 (by decide)),
       h c _ (mem_uc main_v36 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩), funext fun g => hz g (.inr (no_unscoped g.2))⟩)

end Cert.KernelIdeal.Gen

end
-- ==== Proof.Quant.lean ====
/- The quantiser's power of two, read two ways: from the count of the powers of two not above `x` (the kernel), and
   from the floor of the base-two logarithm (the reference). -/
module

public import Idealize.ShloMosaic.PureOps.Ideal
public import Idealize.ShloMosaic.Lib.WordCmp
public import Idealize.ShloMosaic.Lib.Pointwise

@[expose] public section

set_option maxRecDepth 16384

noncomputable section

namespace Cert.Quant

open Idealize.ShloMosaic

/-- The float whose biased exponent is `f` and whose fraction is zero. -/
def power (f : Fin 256) : EReal := Ideal.ofBits .f32 (IntOp.shli ArithUnit.vector (BitVec.ofNat 32 f) 23#32)

/-- The kernel's biased exponent of `x`: how many `f ≥ 1` have `x < power f` false. -/
def field (x : EReal) : BitVec 32 :=
  Finset.univ.fold IntOp.addi 0#32 fun f : Fin 256 =>
    Scalar.select (IntOp.ori (IntOp.cmpi .eq (BitVec.ofNat 32 f) 0#32)
      (BitVec.ofBool (decide (x < Ideal.ofBits .f32 (IntOp.shli ArithUnit.vector (BitVec.ofNat 32 f) 23#32))))) 0#32 1#32

/-- The kernel's exponent: the biased one less 126, and 0 where that is 0. -/
def expo (x : EReal) : BitVec 32 :=
  Scalar.select (IntOp.cmpi .eq (field x) 0#32) 0#32 (IntOp.subi (field x) 126#32)

/-- The kernel's scale, the float with biased exponent `127 + expo`. -/
def kScale (x : EReal) : EReal := Ideal.ofBits .f32 (IntOp.shli ArithUnit.vector (IntOp.addi 127#32 (expo x)) 23#32)

/-- The kernel's inverse scale, the float with biased exponent `127 - expo`. -/
def kInv (x : EReal) : EReal := Ideal.ofBits .f32 (IntOp.shli ArithUnit.vector (IntOp.subi 127#32 (expo x)) 23#32)

/-- The reference's exponent of the largest magnitude `a`: one more than the floor of the base-two logarithm of
`a / 57344` (the f32 reciprocal), and 0 where `a` is 0. -/
def rExp (a : EReal) : EReal :=
  if a = 0 then 0 else
    Ideal.liftRound Int.floor (Ideal.div (Ideal.log (a * Ideal.ofBits .f32 0x37924925#32)) (Ideal.log (Ideal.ofBits .f32 0x40000000#32))) + 1

/-- The reference's scale. -/
def rScale (a : EReal) : EReal := Ideal.pow (Ideal.ofBits .f32 0x40000000#32) (rExp a)

/-- The reference's inverse scale. -/
def rInv (a : EReal) : EReal := Ideal.pow (Ideal.ofBits .f32 0x40000000#32) (-rExp a)

/-- Counting the `f` from 1 to `k` among all biased exponents gives `k`. -/
theorem count : ∀ k : Fin 256, (Finset.univ.fold IntOp.addi 0#32 fun f : Fin 256 =>
    if f.val = 0 ∨ k.val < f.val then 0#32 else 1#32) = BitVec.ofNat 32 k := by decide +kernel

/-- One term of the count. -/
theorem term (f : Fin 256) (p : Prop) [Decidable p] :
    Scalar.select (IntOp.ori (IntOp.cmpi .eq (BitVec.ofNat 32 f) 0#32) (BitVec.ofBool (decide p))) 0#32 1#32
      = if f.val = 0 ∨ p then 0#32 else 1#32 := by
  have h : ∀ (f : Fin 256) (b : Bool), Scalar.select (IntOp.ori (IntOp.cmpi .eq (BitVec.ofNat 32 f) 0#32) (BitVec.ofBool b)) 0#32 1#32
      = if f.val = 0 ∨ b = true then 0#32 else 1#32 := by decide +kernel
  rw [h f (decide p)]
  simp only [decide_eq_true_eq]

/-- If the thresholds above `x` are those past `k`, the biased exponent of `x` is `k`. -/
theorem field_eq (x : EReal) (k : Fin 256) (h : ∀ f : Fin 256, f.val ≠ 0 → (x < power f ↔ k.val < f.val)) :
    field x = BitVec.ofNat 32 k := by
  rw [← count k]
  unfold field
  refine Finset.fold_congr fun f _ => ?_
  rw [term]
  by_cases h0 : f.val = 0
  · simp only [h0, true_or, if_true]
  · simp only [h0, false_or]
    exact if_congr (h f h0) rfl rfl

/-- A float with zero fraction and a biased exponent in the normal range is that power of two. -/
theorem power_eq (f : Fin 256) (h0 : f.val ≠ 0) (h1 : f.val < 255) : power f = (((2 : ℝ) ^ ((f.val : ℤ) - 127) : ℝ) : EReal) := by
  have hb : ∀ f : Fin 256, ((IntOp.shli ArithUnit.vector (BitVec.ofNat 32 f) 23#32).extractLsb' (8 + 23) 1 == 1#1) = false
      ∧ ((IntOp.shli ArithUnit.vector (BitVec.ofNat 32 f) 23#32).extractLsb' 23 8).toNat = f.val
      ∧ ((IntOp.shli ArithUnit.vector (BitVec.ofNat 32 f) 23#32).extractLsb' 0 23).toNat = 0 := by decide +kernel
  obtain ⟨hn, he, hf⟩ := hb f
  unfold power
  show Ideal.ieee 8 23 _ = _
  unfold Ideal.ieee
  simp only [hn, he, hf]
  rw [if_neg (by omega), if_neg h0]
  refine congrArg (fun r : ℝ => (r : EReal)) ?_
  have : ((f.val : ℤ) - 127) = 23 + ((f.val : ℤ) - (2 ^ (8 - 1) - 1) - (23 : ℕ)) := by norm_num
  rw [this, zpow_add₀ two_ne_zero]
  norm_num

/-- The largest biased exponent is infinity. -/
theorem power_top (f : Fin 256) (h : f.val = 255) : power f = ⊤ := by
  obtain rfl : f = (⟨255, by decide⟩ : Fin 256) := Fin.ext h
  have hb : IntOp.shli ArithUnit.vector (BitVec.ofNat 32 255) 23#32 = 0x7F800000#32 := by decide
  show Ideal.ofBits .f32 (IntOp.shli ArithUnit.vector (BitVec.ofNat 32 255) 23#32) = ⊤
  rw [hb]
  simp [Ideal.ofBits, Ideal.ieee]

/-- The constant two. -/
theorem two_eq : Ideal.ofBits .f32 0x40000000#32 = ((2 : ℝ) : EReal) := by
  simp [Ideal.ofBits, Ideal.ieee, -EReal.coe_mul]; norm_num

/-- The f32 reciprocal of 57344. -/
theorem c_eq : Ideal.ofBits .f32 0x37924925#32 = ((9586981 * 2 ^ (-39 : ℤ) : ℝ) : EReal) := by
  simp [Ideal.ofBits, Ideal.ieee, -EReal.coe_mul]

/-- The smallest normal f32. -/
theorem tiny_eq : Ideal.ofBits .f32 0x00800000#32 = (((2 : ℝ) ^ (-126 : ℤ) : ℝ) : EReal) := by
  simp [Ideal.ofBits, Ideal.ieee, -EReal.coe_mul]; norm_num

/-- The largest finite bf16. -/
theorem max_eq : Ideal.ofBits .f32 0x7F7F0000#32 = ((255 * 2 ^ (120 : ℤ) : ℝ) : EReal) := by
  simp [Ideal.ofBits, Ideal.ieee, -EReal.coe_mul]; norm_num

/-- From the biased exponent `k` the kernel's two floats have biased exponents `k + 1` and `253 - k`. -/
theorem bits : ∀ k : Fin 253, k.val ≠ 0 →
    IntOp.addi 127#32 (Scalar.select (IntOp.cmpi .eq (BitVec.ofNat 32 k) 0#32) 0#32 (IntOp.subi (BitVec.ofNat 32 k) 126#32)) = BitVec.ofNat 32 (k.val + 1)
    ∧ IntOp.subi 127#32 (Scalar.select (IntOp.cmpi .eq (BitVec.ofNat 32 k) 0#32) 0#32 (IntOp.subi (BitVec.ofNat 32 k) 126#32)) = BitVec.ofNat 32 (253 - k.val) := by
  decide +kernel

/-- Where `2 ^ n ≤ x < 2 ^ (n + 1)`, the kernel's scale is `2 ^ (n + 1)` and its inverse `2 ^ -(n + 1)`. -/
theorem k_pos (r : ℝ) (n : ℤ) (hn0 : -126 ≤ n) (hn1 : n < 126) (h0 : (2 : ℝ) ^ n ≤ r) (h1 : r < (2 : ℝ) ^ (n + 1)) :
    kScale (r : EReal) = (((2 : ℝ) ^ (n + 1) : ℝ) : EReal) ∧ kInv (r : EReal) = (((2 : ℝ) ^ (-(n + 1)) : ℝ) : EReal) := by
  obtain ⟨k, hk⟩ : ∃ k : ℕ, (k : ℤ) = n + 127 := ⟨(n + 127).toNat, by omega⟩
  have hk0 : k ≠ 0 := by omega
  have hk1 : k < 253 := by omega
  have hfield : field (r : EReal) = BitVec.ofNat 32 k := by
    refine field_eq (r : EReal) ⟨k, by omega⟩ fun f hf0 => ?_
    by_cases hf : f.val = 255
    · rw [power_top f hf]
      exact ⟨fun _ => by show k < f.val; omega, fun _ => EReal.coe_lt_top r⟩
    · rw [power_eq f hf0 (by omega), EReal.coe_lt_coe_iff]
      show _ ↔ k < f.val
      constructor
      · intro h
        have := (zpow_lt_zpow_iff_right₀ (one_lt_two : (1 : ℝ) < 2)).1 (lt_of_le_of_lt h0 h)
        omega
      · intro h
        exact lt_of_lt_of_le h1 (zpow_le_zpow_right₀ (one_lt_two.le : (1 : ℝ) ≤ 2) (by omega))
  obtain ⟨hs, hi⟩ := bits ⟨k, hk1⟩ hk0
  unfold kScale kInv expo
  rw [hfield, hs, hi]
  constructor
  · refine (power_eq ⟨k + 1, by omega⟩ (by simp) (by show k + 1 < 255; omega)).trans ?_
    congr 2; push_cast; omega
  · refine (power_eq ⟨253 - k, by omega⟩ (by show 253 - k ≠ 0; omega) (by show 253 - k < 255; omega)).trans ?_
    congr 2
    have : ((253 - k : ℕ) : ℤ) = 253 - (k : ℤ) := by omega
    show ((253 - k : ℕ) : ℤ) - 127 = _
    omega

/-- At zero the kernel's scale and its inverse are one. -/
theorem k_zero : kScale 0 = 1 ∧ kInv 0 = 1 := by
  have hfield : field 0 = BitVec.ofNat 32 0 := by
    refine field_eq 0 ⟨0, by omega⟩ fun f hf0 => ?_
    refine ⟨fun _ => Nat.pos_of_ne_zero hf0, fun _ => ?_⟩
    by_cases hf : f.val = 255
    · rw [power_top f hf]; exact EReal.zero_lt_top
    · rw [power_eq f hf0 (by omega)]; exact EReal.coe_pos.2 (zpow_pos two_pos _)
  have hp := power_eq ⟨127, by omega⟩ (by simp) (by simp)
  have e : (((2 : ℝ) ^ (((127 : ℕ) : ℤ) - 127) : ℝ) : EReal) = 1 := by norm_num
  unfold kScale kInv expo
  rw [hfield]
  exact ⟨hp.trans e, hp.trans e⟩

/-- The floor of the base-two logarithm of a positive real is the exponent of the power of two at or below it. -/
theorem floor_log (r : ℝ) (hr : 0 < r) :
    (2 : ℝ) ^ ⌊Real.log r * (Real.log 2)⁻¹⌋ ≤ r ∧ r < (2 : ℝ) ^ (⌊Real.log r * (Real.log 2)⁻¹⌋ + 1) := by
  have hl : 0 < Real.log 2 := Real.log_pos one_lt_two
  have h0 := Int.floor_le (Real.log r * (Real.log 2)⁻¹)
  have h1 := Int.lt_floor_add_one (Real.log r * (Real.log 2)⁻¹)
  rw [← div_eq_mul_inv] at h0 h1 ⊢
  rw [le_div_iff₀ hl] at h0
  rw [div_lt_iff₀ hl] at h1
  constructor
  · rw [← Real.log_le_log_iff (zpow_pos two_pos _) hr, Real.log_zpow]; exact h0
  · rw [← Real.log_lt_log_iff hr (zpow_pos two_pos _), Real.log_zpow]; push_cast; exact h1

/-- Where `a / 57344` is the positive real `r`, the reference's exponent is one more than the floor of `log₂ r`. -/
theorem r_pos (a : EReal) (r : ℝ) (ha : a ≠ 0) (hr : a * Ideal.ofBits .f32 0x37924925#32 = (r : EReal)) (hr0 : 0 < r) :
    rExp a = (((⌊Real.log r * (Real.log 2)⁻¹⌋ + 1 : ℤ) : ℝ) : EReal) := by
  have hl : Real.log 2 ≠ 0 := (Real.log_pos one_lt_two).ne'
  have e1 : Ideal.log (r : EReal) = ((Real.log r : ℝ) : EReal) := if_neg (not_le.2 hr0)
  have e2 : Ideal.log ((2 : ℝ) : EReal) = ((Real.log 2 : ℝ) : EReal) := if_neg (not_le.2 two_pos)
  unfold rExp
  rw [if_neg ha, hr, two_eq, e1, e2]
  unfold Ideal.div
  rw [if_neg (by exact_mod_cast hl), ← EReal.coe_inv, ← EReal.coe_mul]
  show (((⌊Real.log r * (Real.log 2)⁻¹⌋ : ℤ) : ℝ) : EReal) + 1 = _
  rw [← EReal.coe_one, ← EReal.coe_add]
  congr 1
  push_cast; ring

/-- Two to an integer power. -/
theorem pow_two_int (n : ℤ) : Ideal.pow (Ideal.ofBits .f32 0x40000000#32) ((n : ℝ) : EReal) = (((2 : ℝ) ^ n : ℝ) : EReal) := by
  rw [two_eq]
  show ((Real.rpow 2 (n : ℝ) : ℝ) : EReal) = _
  congr 1
  exact Real.rpow_intCast 2 n

/-- THE QUANTISER: for a largest magnitude that is a bf16 number, and zero or at least `2 ^ -126` after the division
by 57344, the kernel's scale and inverse are the reference's, and the scale is a nonnegative real. -/
theorem quant (a : EReal) (hmax : a ≤ Ideal.ofBits .f32 0x7F7F0000#32)
    (h : a = 0 ∨ Ideal.ofBits .f32 0x00800000#32 ≤ a * Ideal.ofBits .f32 0x37924925#32) :
    kScale (a * Ideal.ofBits .f32 0x37924925#32) = rScale a ∧ kInv (a * Ideal.ofBits .f32 0x37924925#32) = rInv a
      ∧ 0 ≤ rScale a ∧ rScale a ≠ ⊤ := by
  by_cases ha : a = 0
  · subst ha
    have e0 : rExp 0 = (((0 : ℤ) : ℝ) : EReal) := by unfold rExp; rw [if_pos rfl]; norm_num
    have e1 : rScale 0 = 1 := by unfold rScale; rw [e0, pow_two_int]; norm_num
    have e2 : rInv 0 = 1 := by
      unfold rInv; rw [e0, ← EReal.coe_neg, ← Int.cast_neg, pow_two_int]; norm_num
    rw [zero_mul, e1, e2]
    exact ⟨k_zero.1, k_zero.2, zero_le_one, EReal.coe_ne_top 1⟩
  have hx := h.resolve_left ha
  rw [tiny_eq, c_eq] at hx
  rw [max_eq] at hmax
  have hc : (0 : ℝ) < 9586981 * 2 ^ (-39 : ℤ) := by positivity
  induction a using EReal.rec with
  | bot =>
    rw [EReal.bot_mul_coe_of_pos hc] at hx
    exact absurd (le_bot_iff.1 hx) (EReal.coe_ne_bot _)
  | top => exact absurd (top_le_iff.1 hmax) (EReal.coe_ne_top _)
  | coe a =>
    rw [← EReal.coe_mul, EReal.coe_le_coe_iff] at hx
    rw [EReal.coe_le_coe_iff] at hmax
    obtain ⟨r, hr⟩ : ∃ r : ℝ, r = a * (9586981 * 2 ^ (-39 : ℤ)) := ⟨_, rfl⟩
    rw [← hr] at hx
    have hr1 : r < (2 : ℝ) ^ (126 : ℤ) := by
      rw [hr]
      refine lt_of_le_of_lt (mul_le_mul_of_nonneg_right hmax hc.le) ?_
      norm_num
    have hr0 : 0 < r := lt_of_lt_of_le (by positivity) hx
    have hm : (a : EReal) * Ideal.ofBits .f32 0x37924925#32 = (r : EReal) := by rw [c_eq, ← EReal.coe_mul, hr]
    obtain ⟨h0, h1⟩ := floor_log r hr0
    have hn0 : -126 ≤ ⌊Real.log r * (Real.log 2)⁻¹⌋ := by
      have := (zpow_lt_zpow_iff_right₀ (one_lt_two : (1 : ℝ) < 2)).1 (lt_of_le_of_lt hx h1)
      omega
    have hn1 : ⌊Real.log r * (Real.log 2)⁻¹⌋ < 126 :=
      (zpow_lt_zpow_iff_right₀ (one_lt_two : (1 : ℝ) < 2)).1 (lt_of_le_of_lt h0 hr1)
    obtain ⟨hs, hi⟩ := k_pos r _ hn0 hn1 h0 h1
    have he := r_pos (a : EReal) r ha hm hr0
    rw [hm, hs, hi]
    unfold rScale rInv
    rw [he, ← EReal.coe_neg, ← Int.cast_neg, pow_two_int, pow_two_int]
    exact ⟨rfl, rfl, EReal.coe_nonneg.2 (zpow_pos two_pos _).le, EReal.coe_ne_top _⟩

end Cert.Quant

end
-- ==== Proof.Spec.lean ====
module

public import proofs.«01_k».proof.Proof.Quant
public import Idealize.ShloMosaic.Lib.Pointwise

@[expose] public section

noncomputable section

/-! The backward pass of latent cross attention as formulas over the extended reals, index by index: `b` is the
    sequence, `h` the head, `l` the latent row, `t` the position and `d` the feature. Both programs are shown to
    compute these formulas. -/

namespace Cert.Spec

open Idealize.ShloMosaic

/-- The latent queries. -/
abbrev Lat := (⟨3, ![80, 16, 64]⟩ : Shape).Idx → EReal
/-- The cached keys or values. -/
abbrev Seq := (⟨4, ![3, 40960, 16, 64]⟩ : Shape).Idx → EReal
/-- One number for each sequence and head. -/
abbrev Per := (⟨2, ![3, 16]⟩ : Shape).Idx → EReal
/-- An output or its gradient. -/
abbrev Out := (⟨4, ![3, 80, 16, 64]⟩ : Shape).Idx → EReal
/-- The log-sum-exp of each row. -/
abbrev Lse := (⟨3, ![3, 16, 80]⟩ : Shape).Idx → EReal

/-- The softmax scale 1/8, as the number both programs print. -/
def eighth : EReal := Ideal.ofBits .f32 0x3E000000#32

/-- The largest magnitude of the gradient of one sequence and head: rows first, features inside. -/
def amax (G : Out) (b : Fin 3) (h : Fin 16) : EReal :=
  Finset.univ.fold max (Ideal.ofBits .f32 0xFF800000#32) fun l : Fin 80 =>
    Finset.univ.fold max (Ideal.ofBits .f32 0xFF800000#32) fun d : Fin 64 =>
      FloatOps.absf (F := Ideal) (φ := .f32) (G (ix4 b l h d))

/-- The power of two scale of one sequence and head. -/
def scale (G : Out) (b : Fin 3) (h : Fin 16) : EReal := Quant.rScale (amax G b h)

/-- The code of one gradient entry: scaled down and clipped to the range of e5m2. -/
def code (G : Out) (b : Fin 3) (l : Fin 80) (h : Fin 16) (d : Fin 64) : EReal :=
  min (Ideal.ofBits .f32 0x47600000#32)
    (max (Ideal.ofBits .f32 0xC7600000#32) (G (ix4 b l h d) * Quant.rInv (amax G b h)))

/-- The attention probability. -/
def prob (Q : Lat) (K : Seq) (ks : Per) (L : Lse) (b : Fin 3) (h : Fin 16) (l : Fin 80) (t : Fin 40960) : EReal :=
  Ideal.exp (eighth * ks (ix2 b h) * ∑ d : Fin 64, K (ix4 b t h d) * Q (ix3 l h d) - L (ix3 b h l))

/-- The gradient of the probability. -/
def dprob (V : Seq) (vs : Per) (G : Out) (b : Fin 3) (h : Fin 16) (l : Fin 80) (t : Fin 40960) : EReal :=
  scale G b h * vs (ix2 b h) * ∑ d : Fin 64, code G b l h d * V (ix4 b t h d)

/-- The row sum of the gradient times the output. -/
def delta (O G : Out) (b : Fin 3) (h : Fin 16) (l : Fin 80) : EReal :=
  ∑ d : Fin 64, code G b l h d * scale G b h * O (ix4 b l h d)

/-- The gradient of the score. -/
def dscore (Q : Lat) (K : Seq) (ks : Per) (V : Seq) (vs : Per) (O : Out) (L : Lse) (G : Out)
    (b : Fin 3) (h : Fin 16) (l : Fin 80) (t : Fin 40960) : EReal :=
  prob Q K ks L b h l t * (dprob V vs G b h l t - delta O G b h l)

/-- The gradient of the latent queries, one sequence at a time. -/
def dqSeq (Q : Lat) (K : Seq) (ks : Per) (V : Seq) (vs : Per) (O : Out) (L : Lse) (G : Out)
    (b : Fin 3) (l : Fin 80) (h : Fin 16) (d : Fin 64) : EReal :=
  eighth * ks (ix2 b h) * ∑ t : Fin 40960, K (ix4 b t h d) * dscore Q K ks V vs O L G b h l t

/-- The gradient of the keys. -/
def dk (Q : Lat) (K : Seq) (ks : Per) (V : Seq) (vs : Per) (O : Out) (L : Lse) (G : Out)
    (b : Fin 3) (t : Fin 40960) (h : Fin 16) (d : Fin 64) : EReal :=
  eighth * ∑ l : Fin 80, Q (ix3 l h d) * dscore Q K ks V vs O L G b h l t

/-- The gradient of the values. -/
def dv (Q : Lat) (K : Seq) (ks : Per) (L : Lse) (G : Out)
    (b : Fin 3) (t : Fin 40960) (h : Fin 16) (d : Fin 64) : EReal :=
  scale G b h * ∑ l : Fin 80, code G b l h d * prob Q K ks L b h l t

end Cert.Spec

end
-- ==== Proof.RefValue.lean ====
module

public import proofs.«01_k».proof.Proof.Gen.ReferenceIdeal.Frame
public import proofs.«01_k».proof.Proof.Spec
public import Idealize.ShloMosaic.Lib.Pointwise
public import Idealize.ShloMosaic.Lib.Claim
public import Idealize.ShloMosaic.Lib.Pipeline.ValueKit

@[expose] public section

set_option maxRecDepth 16384

noncomputable section

/-! What the reference's program computes, index by index: each result is the specification's formula. -/

namespace Cert.ReferenceIdeal.Gen

open Idealize.ShloMosaic Idealize.ShloMosaic.TcCoe Idealize.ShloMosaic.Tactic Idealize.SL.Sem

variable (m : (ℓ : Loc nD τ sig) → Buf (Elt Ideal) ℓ) (ρ : Dev nD → PrngReg)

/-- The largest magnitude of each sequence and head, as the reference writes it. -/
def amaxA (G : FVec Ideal S3x80x16x64 .bf16) : FVec Ideal S3x16 .f32 :=
  Host.reduce FloatOps.maximumf (Host.absf (extf .f32 G bitsLt_bf16_f32)) (constant S_ .f32 0xFF800000#32) reducesTo_S3x80x16x64_S3x16_d1_3 h_S_
/-- The reference's exponent from the largest magnitude. -/
def expA (a : FVec Ideal S3x16 .f32) : FVec Ideal S3x16 .f32 :=
  select (cmpf .oeq a (broadcastInDim S3x16 ![] bcast_S_S3x16 (constant S_ .f32 0x00000000#32)))
    (broadcastInDim S3x16 ![] bcast_S_S3x16 (constant S_ .f32 0x00000000#32))
    (addf (Host.floor (Host.divf (Host.log (mulf a (broadcastInDim S3x16 ![] bcast_S_S3x16 (constant S_ .f32 0x37924925#32))))
      (broadcastInDim S3x16 ![] bcast_S_S3x16 (Host.log (constant S_ .f32 0x40000000#32)))))
      (broadcastInDim S3x16 ![] bcast_S_S3x16 (constant S_ .f32 0x3F800000#32)))
/-- The reference's scale of the gradient. -/
def scaleA (G : FVec Ideal S3x80x16x64 .bf16) : FVec Ideal S3x16 .f32 :=
  Host.powf (broadcastInDim S3x16 ![] bcast_S_S3x16 (constant S_ .f32 0x40000000#32)) (expA (amaxA G))
/-- The reference's scaled and clipped gradient. -/
def codeA (G : FVec Ideal S3x80x16x64 .bf16) : FVec Ideal S3x80x16x64 .f32 :=
  minimumf (broadcastInDim S3x80x16x64 ![] bcast_S_S3x80x16x64 (constant S_ .f32 0x47600000#32))
    (maximumf (broadcastInDim S3x80x16x64 ![] bcast_S_S3x80x16x64 (constant S_ .f32 0xC7600000#32))
      (mulf (extf .f32 G bitsLt_bf16_f32)
        (broadcastInDim S3x80x16x64 ![0, 1, 2, 3] bcast_S3x1x16x1_S3x80x16x64_0_1_2_3
          (broadcastInDim S3x1x16x1 ![0, 2] bcast_S3x16_S3x1x16x1_0_2
            (Host.powf (broadcastInDim S3x16 ![] bcast_S_S3x16 (constant S_ .f32 0x40000000#32)) (Host.negf (expA (amaxA G))))))))

/-- The scale array before the casts. -/
theorem V_v16 (c : Dev nD) : V m c main_v16 = scaleA (m ((c : Thread nD τ).loc main_arg7)) := by
  unfold V V0
  simp only [hostOps0, hostOps0_1, hostOps0_2, hostOps0_3, List.flatten_cons, List.flatten_nil, List.append_nil, List.cons_append, List.nil_append]
  after_results
  simp only [StableHlo.TRef.toBuf, StableHlo.TRef.ofBuf, cast_cast, cast_eq, id_eq]
  rfl
/-- The array the casts read. -/
theorem V_v23 (c : Dev nD)  : V m c main_v23 = codeA (m ((c : Thread nD τ).loc main_arg7)) := by
  unfold V V0
  simp only [hostOps0, hostOps0_1, hostOps0_2, hostOps0_3, List.flatten_cons, List.flatten_nil, List.append_nil, List.cons_append, List.nil_append]
  after_results
  simp only [StableHlo.TRef.toBuf, StableHlo.TRef.ofBuf, cast_cast, cast_eq, id_eq]
  rfl
/-- The joint maximum over rows and features is the nested one. -/
theorem amax_at (G : FVec Ideal S3x80x16x64 .bf16) (b : Fin 3) (h : Fin 16) : amaxA G (ix2 b h) = Spec.amax G b h := by
  unfold amaxA
  rw [Host.reduce_eq_fold]
  have hd : ∀ i : S3x80x16x64.Idx, reducesTo_S3x80x16x64_S3x16_d1_3.drop i = ix2 (i 0) (i 2) := by
    intro i
    funext a
    match a with
    | ⟨0, _⟩ => exact Fin.ext (Shape.ReducesTo.drop_apply_val_of_eq _ i 0 0)
    | ⟨1, _⟩ => exact Fin.ext (Shape.ReducesTo.drop_apply_val_of_eq _ i 1 2)
  show Finset.fold max (Ideal.ofBits .f32 0xFF800000#32) (fun i => FloatOps.absf (F := Ideal) (φ := .f32) (G i)) _ = _
  unfold Spec.amax
  refine le_antisymm ?_ ?_
  · refine (Finset.fold_max_le _).2 ⟨(Finset.le_fold_max _).2 (Or.inl le_rfl), fun i hi => ?_⟩
    obtain ⟨-, hi⟩ := Finset.mem_filter.1 hi
    rw [hd i] at hi
    have h0 : i 0 = b := congrFun hi 0
    have h2 : i 2 = h := congrFun hi 1
    refine (Finset.le_fold_max _).2 (Or.inr ⟨i 1, Finset.mem_univ _, ?_⟩)
    refine (Finset.le_fold_max _).2 (Or.inr ⟨i 3, Finset.mem_univ _, ?_⟩)
    rw [← h0, ← h2]
    exact le_of_eq (congrArg (fun j => FloatOps.absf (F := Ideal) (φ := .f32) (G j)) (eq_ix4 i))
  · refine (Finset.fold_max_le _).2 ⟨(Finset.le_fold_max _).2 (Or.inl le_rfl), fun l _ => ?_⟩
    refine (Finset.fold_max_le _).2 ⟨(Finset.le_fold_max _).2 (Or.inl le_rfl), fun d _ => ?_⟩
    refine (Finset.le_fold_max _).2 (Or.inr ⟨ix4 b l h d, Finset.mem_filter.2 ⟨Finset.mem_univ _, hd _⟩, le_rfl⟩)
/-- The reference's scale at an index is the specification's. -/
theorem scale_at (G : FVec Ideal S3x80x16x64 .bf16) (b : Fin 3) (h : Fin 16) : scaleA G (ix2 b h) = Spec.scale G b h := by
  pointwise [scaleA, expA, hlo_ix]
  rw [amax_at]
  unfold Spec.scale Quant.rScale Quant.rExp
  rfl
/-- The reference's code at an index is the specification's. -/
theorem code_at (G : FVec Ideal S3x80x16x64 .bf16) (b : Fin 3) (l : Fin 80) (h : Fin 16) (d : Fin 64) : codeA G (ix4 b l h d) = Spec.code G b l h d := by
  pointwise [codeA, expA, hlo_ix]
  rw [amax_at]
  unfold Spec.code Quant.rInv Quant.rExp
  rfl
/-- Every window of the casts is at block 0 of its array. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0]
    ∧ win0_6.index t = ![0, 0, 0, 0] := (by decide +kernel : ∀ t : Fin grid0.N, _)

/-- The casts' first input block is the whole scaled gradient. -/
theorem in0 (c : Dev nD) (t : Fin cfg0.N) (i) : iblk m c 0 t i = V m c main_v23 i := by
  unfold iblk
  blk_simp
  blk_ext [idx t]

/-- The casts' second input block is the whole array of keys. -/
theorem in1 (c : Dev nD) (t : Fin cfg0.N) (i) : iblk m c 1 t i = V m c main_arg1 i := by
  unfold iblk
  blk_simp
  blk_ext [idx t]

/-- The casts' third input block is the whole array of values. -/
theorem in2 (c : Dev nD) (t : Fin cfg0.N) (i) : iblk m c 2 t i = V m c main_arg3 i := by
  unfold iblk
  blk_simp
  blk_ext [idx t]

/-- The codes the casts write are the scaled gradient. -/
theorem arr3 (c : Dev nD) : (dats m 0 c).arrAt 3 (cfgs 0).N = V m c main_v23 := by
  refine (dats m 0 c).arrAt_eq_of_after_last 3 t0_0 (by decide +kernel) _ fun j => ?_
  blk_simp
  rw [after0_3]
  frame_out
  pointwise [k0_pay1]
  exact in0 m c t0_0 j

/-- The widened codes are the scaled gradient. -/
theorem arr4 (c : Dev nD) : (dats m 0 c).arrAt 4 (cfgs 0).N = V m c main_v23 := by
  refine (dats m 0 c).arrAt_eq_of_after_last 4 t0_0 (by decide +kernel) _ fun j => ?_
  blk_simp
  rw [after0_4]
  frame_out
  pointwise [k0_pay2, k0_pay1]
  exact in0 m c t0_0 j

/-- The widened keys are the keys. -/
theorem arr5 (c : Dev nD) : (dats m 0 c).arrAt 5 (cfgs 0).N = V m c main_arg1 := by
  refine (dats m 0 c).arrAt_eq_of_after_last 5 t0_0 (by decide +kernel) _ fun j => ?_
  blk_simp
  rw [after0_5]
  frame_out
  pointwise [k0_pay3]
  exact in1 m c t0_0 j

/-- The widened values are the values. -/
theorem arr6 (c : Dev nD) : (dats m 0 c).arrAt 6 (cfgs 0).N = V m c main_arg3 := by
  refine (dats m 0 c).arrAt_eq_of_after_last 6 t0_0 (by decide +kernel) _ fun j => ?_
  blk_simp
  rw [after0_6]
  frame_out
  pointwise [k0_pay4]
  exact in2 m c t0_0 j

section Tail

variable (W : Valuation τ sig (Elt Ideal)) (Q : Spec.Lat) (K : Spec.Seq) (ks : Spec.Per) (Vv : Spec.Seq) (vs : Spec.Per)
  (O : Spec.Out) (L : Spec.Lse) (G : Spec.Out)

/-- What the host lines after the casts read: the arguments, the widened codes, keys and values, and the scale. -/
structure Reads : Prop where
  q : (W (Proc.devRef .tc main_arg0) : FVec Ideal S80x16x64 .bf16) = Q
  ks : (W (Proc.devRef .tc main_arg2) : FVec Ideal S3x16 .f32) = ks
  vs : (W (Proc.devRef .tc main_arg4) : FVec Ideal S3x16 .f32) = vs
  o : (W (Proc.devRef .tc main_arg5) : FVec Ideal S3x80x16x64 .bf16) = O
  l : (W (Proc.devRef .tc main_arg6) : FVec Ideal S3x16x80 .f32) = L
  k : (W (Proc.devRef .tc main_v24_2) : FVec Ideal S3x40960x16x64 .bf16) = K
  v : (W (Proc.devRef .tc main_v24_3) : FVec Ideal S3x40960x16x64 .bf16) = Vv
  code : ∀ b l h d, (W (Proc.devRef .tc main_v24_1) : FVec Ideal S3x80x16x64 .bf16) (ix4 b l h d) = Spec.code G b l h d
  scale : ∀ b h, (W (Proc.devRef .tc main_v16) : FVec Ideal S3x16 .f32) (ix2 b h) = Spec.scale G b h

variable {W Q K ks Vv vs O L G}

/-- The gradient of the latent queries by sequence. -/
theorem tail_dqSeq (r : Reads W Q K ks Vv vs O L G) (b : Fin 3) (l : Fin 80) (h : Fin 16) (d : Fin 64) :
    (StableHlo.after (hostOps1 (F := Ideal)) W (Proc.devRef .tc main_v72) : FVec Ideal S3x80x16x64 .f32) (ix4 b l h d)
      = Spec.dqSeq Q K ks Vv vs O L G b l h d := by
  after_results
  pointwise [hlo_ix]
  simp only [r.q, r.ks, r.vs, r.o, r.l, r.k, r.v, r.code, r.scale]
  rfl

/-- The gradient of the latent queries, summed over the sequences. -/
theorem tail_dq (r : Reads W Q K ks Vv vs O L G) (l : Fin 80) (h : Fin 16) (d : Fin 64) :
    (StableHlo.after (hostOps1 (F := Ideal)) W (Proc.devRef .tc main_v74) : FVec Ideal S80x16x64 .bf16) (ix3 l h d)
      = ∑ b : Fin 3, Spec.dqSeq Q K ks Vv vs O L G b l h d := by
  after_results
  pointwise [hlo_ix]
  simp only [r.q, r.ks, r.vs, r.o, r.l, r.k, r.v, r.code, r.scale]
  rfl

/-- The gradient of the keys. -/
theorem tail_dk (r : Reads W Q K ks Vv vs O L G) (b : Fin 3) (t : Fin 40960) (h : Fin 16) (d : Fin 64) :
    (StableHlo.after (hostOps1 (F := Ideal)) W (Proc.devRef .tc main_v65) : FVec Ideal S3x40960x16x64 .bf16) (ix4 b t h d)
      = Spec.dk Q K ks Vv vs O L G b t h d := by
  after_results
  pointwise [hlo_ix]
  simp only [r.q, r.ks, r.vs, r.o, r.l, r.k, r.v, r.code, r.scale]
  rfl

/-- The gradient of the values. -/
theorem tail_dv (r : Reads W Q K ks Vv vs O L G) (b : Fin 3) (t : Fin 40960) (h : Fin 16) (d : Fin 64) :
    (StableHlo.after (hostOps1 (F := Ideal)) W (Proc.devRef .tc main_v60) : FVec Ideal S3x40960x16x64 .bf16) (ix4 b t h d)
      = Spec.dv Q K ks L G b t h d := by
  after_results
  pointwise [hlo_ix]
  simp only [r.q, r.ks, r.vs, r.o, r.l, r.k, r.v, r.code, r.scale]
  rfl

end Tail

/-- The contents the host lines after the casts start from. -/
abbrev X (c : Dev nD) : Valuation τ sig (Elt Ideal) :=
  Pipeline.withArrays (cfgs 0).spec c (V0 m c) fun w => (dats m 0 c).arrAt w (cfgs 0).N

theorem X_of_ne (c : Dev nD) (b : Ref sig .tc) (hb : ∀ w, Pipeline.arrRef spec0 w ≠ b) : X m c (Proc.devRef .tc b) = V m c b :=
  Pipeline.withArrays_of_ne spec0 c _ _ b hb

theorem X_arr (c : Dev nD) (w : Fin cfg0.W) : X m c (Proc.devRef .tc (Pipeline.arrRef spec0 w)) = (dats m 0 c).arrAt w (cfgs 0).N :=
  Pipeline.withArrays_arr spec0 launch0.win.arr_inj c _ _ w

/-- Those contents, by argument. -/
theorem reads (c : Dev nD) : Reads (X m c) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) where
  q := (X_of_ne m c main_arg0 (by decide)).trans (V_main_arg0 m c)
  ks := (X_of_ne m c main_arg2 (by decide)).trans (V_main_arg2 m c)
  vs := (X_of_ne m c main_arg4 (by decide)).trans (V_main_arg4 m c)
  o := (X_of_ne m c main_arg5 (by decide)).trans (V_main_arg5 m c)
  l := (X_of_ne m c main_arg6 (by decide)).trans (V_main_arg6 m c)
  k := (X_arr m c 5).trans ((arr5 m c).trans (V_main_arg1 m c))
  v := (X_arr m c 6).trans ((arr6 m c).trans (V_main_arg3 m c))
  code b l h d := (congrFun ((X_arr m c 4).trans ((arr4 m c).trans (V_v23 m c))) _).trans (code_at _ b l h d)
  scale b h := (congrFun ((X_of_ne m c main_v16 (by decide)).trans (V_v16 m c)) _).trans (scale_at _ b h)

end Cert.ReferenceIdeal.Gen

end
-- ==== Proof.RefRun.lean ====
module
public import proofs.«01_k».proof.Proof.RefValue
@[expose] public section
set_option maxRecDepth 16384
noncomputable section

/-! The run of the reference's program: every result array ends holding the specification's formula. -/

namespace Cert.ReferenceIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The latent queries. -/
abbrev gQ : Spec.Lat := m ((c : Thread nD τ).loc main_arg0)
/-- The keys. -/
abbrev gK : Spec.Seq := m ((c : Thread nD τ).loc main_arg1)
/-- The key scales. -/
abbrev gks : Spec.Per := m ((c : Thread nD τ).loc main_arg2)
/-- The values. -/
abbrev gV : Spec.Seq := m ((c : Thread nD τ).loc main_arg3)
/-- The value scales. -/
abbrev gvs : Spec.Per := m ((c : Thread nD τ).loc main_arg4)
/-- The output. -/
abbrev gO : Spec.Out := m ((c : Thread nD τ).loc main_arg5)
/-- The log-sum-exp. -/
abbrev gL : Spec.Lse := m ((c : Thread nD τ).loc main_arg6)
/-- The gradient of the output. -/
abbrev gG : Spec.Out := m ((c : Thread nD τ).loc main_arg7)

/-- The lines after the region, from the contents at its exit. -/
theorem tail_eq (b : Ref sig .tc) : Pipeline.afterTail₀ cfgs (dats m) 0 (V0 m) [hostOps1] c b
    = StableHlo.after (hostOps1 (F := Ideal)) (X m c) (Proc.devRef .tc b) := by
  show StableHlo.after ([hostOps1 (F := Ideal)].flatten) (X m c) (Proc.devRef .tc b) = _
  rw [List.flatten_cons, List.flatten_nil, List.append_nil]

/-- The query gradient, summed over the sequences. -/
theorem res_dq : (Pipeline.afterTail₀ cfgs (dats m) 0 (V0 m) [hostOps1] c main_v74 : FVec Ideal S80x16x64 .bf16)
    = fun j => ∑ b : Fin 3, Spec.dqSeq (gQ m c) (gK m c) (gks m c) (gV m c) (gvs m c) (gO m c) (gL m c) (gG m c) b (j 0) (j 1) (j 2) :=
  (tail_eq m c main_v74).trans (funext fun j => (congrArg _ (eq_ix3 j)).trans (tail_dq (reads m c) (j 0) (j 1) (j 2)))
/-- The query gradient by sequence. -/
theorem res_dqSeq : (Pipeline.afterTail₀ cfgs (dats m) 0 (V0 m) [hostOps1] c main_v72 : FVec Ideal S3x80x16x64 .f32)
    = fun j => Spec.dqSeq (gQ m c) (gK m c) (gks m c) (gV m c) (gvs m c) (gO m c) (gL m c) (gG m c) (j 0) (j 1) (j 2) (j 3) :=
  (tail_eq m c main_v72).trans (funext fun j => (congrArg _ (eq_ix4 j)).trans (tail_dqSeq (reads m c) (j 0) (j 1) (j 2) (j 3)))
/-- The key gradient. -/
theorem res_dk : (Pipeline.afterTail₀ cfgs (dats m) 0 (V0 m) [hostOps1] c main_v65 : FVec Ideal S3x40960x16x64 .bf16)
    = fun j => Spec.dk (gQ m c) (gK m c) (gks m c) (gV m c) (gvs m c) (gO m c) (gL m c) (gG m c) (j 0) (j 1) (j 2) (j 3) :=
  (tail_eq m c main_v65).trans (funext fun j => (congrArg _ (eq_ix4 j)).trans (tail_dk (reads m c) (j 0) (j 1) (j 2) (j 3)))
/-- The value gradient. -/
theorem res_dv : (Pipeline.afterTail₀ cfgs (dats m) 0 (V0 m) [hostOps1] c main_v60 : FVec Ideal S3x40960x16x64 .bf16)
    = fun j => Spec.dv (gQ m c) (gK m c) (gks m c) (gL m c) (gG m c) (j 0) (j 1) (j 2) (j 3) :=
  (tail_eq m c main_v60).trans (funext fun j => (congrArg _ (eq_ix4 j)).trans (tail_dv (reads m c) (j 0) (j 1) (j 2) (j 3)))
/-- The codes. -/
theorem res_code : ((dats m 0 c).arrAt 3 (cfgs 0).N : FVec Ideal S3x80x16x64 .fp8e5m2)
    = fun j => Spec.code (gG m c) (j 0) (j 1) (j 2) (j 3) :=
  ((arr3 m c).trans (V_v23 m c)).trans (funext fun j => (congrArg _ (eq_ix4 j)).trans (code_at _ (j 0) (j 1) (j 2) (j 3)))
/-- The scales. -/
theorem res_scale : (Pipeline.afterTail₀ cfgs (dats m) 0 (V0 m) [hostOps1] c main_v16 : FVec Ideal S3x16 .f32)
    = fun j => Spec.scale (gG m c) (j 0) (j 1) := by
  refine (tail_eq m c main_v16).trans (Eq.trans ?_ (funext fun j => (congrArg _ (eq_ix2 j)).trans ((reads m c).scale (j 0) (j 1))))
  after_results

/-- The reference's program terminates from any memory with zero counters; every result ends holding the
specification's formula, every argument as launched. -/
theorem run : θ_run defs (onTc (τ := τ) (main (F := Ideal))) ⟨m, fun _ => 0, ρ⟩ (fun r => ∀ c : Dev nD,
      r.2.mem ((c.tc : Thread nD τ).loc main_v74) = (fun j => ∑ b : Fin 3, Spec.dqSeq (gQ m c) (gK m c) (gks m c) (gV m c) (gvs m c) (gO m c) (gL m c) (gG m c) b (j 0) (j 1) (j 2) : FVec Ideal S80x16x64 .bf16)
      ∧ r.2.mem ((c.tc : Thread nD τ).loc main_v72) = (fun j => Spec.dqSeq (gQ m c) (gK m c) (gks m c) (gV m c) (gvs m c) (gO m c) (gL m c) (gG m c) (j 0) (j 1) (j 2) (j 3) : FVec Ideal S3x80x16x64 .f32)
      ∧ r.2.mem ((c.tc : Thread nD τ).loc main_v65) = (fun j => Spec.dk (gQ m c) (gK m c) (gks m c) (gV m c) (gvs m c) (gO m c) (gL m c) (gG m c) (j 0) (j 1) (j 2) (j 3) : FVec Ideal S3x40960x16x64 .bf16)
      ∧ r.2.mem ((c.tc : Thread nD τ).loc main_v60) = (fun j => Spec.dv (gQ m c) (gK m c) (gks m c) (gL m c) (gG m c) (j 0) (j 1) (j 2) (j 3) : FVec Ideal S3x40960x16x64 .bf16)
      ∧ r.2.mem ((c.tc : Thread nD τ).loc main_v24_0) = (fun j => Spec.code (gG m c) (j 0) (j 1) (j 2) (j 3) : FVec Ideal S3x80x16x64 .fp8e5m2)
      ∧ r.2.mem ((c.tc : Thread nD τ).loc main_v16) = (fun j => Spec.scale (gG m c) (j 0) (j 1) : FVec Ideal S3x16 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (run_main m ρ) (unchanged m ρ)) fun _ h c =>
    ⟨((h.1 c).2 main_v74 (Pipeline.mem_restRefs_of main_v74 (by decide) (by decide))).trans (res_dq m c),
     ((h.1 c).2 main_v72 (Pipeline.mem_restRefs_of main_v72 (by decide) (by decide))).trans (res_dqSeq m c),
     ((h.1 c).2 main_v65 (Pipeline.mem_restRefs_of main_v65 (by decide) (by decide))).trans (res_dk m c),
     ((h.1 c).2 main_v60 (Pipeline.mem_restRefs_of main_v60 (by decide) (by decide))).trans (res_dv m c),
     ((h.1 c).1 3).trans (res_code m c),
     ((h.1 c).2 main_v16 (Pipeline.mem_restRefs_of main_v16 (by decide) (by decide))).trans (res_scale m c),
     h.2 c⟩

end Cert.ReferenceIdeal.Gen
end
-- ==== Proof.Chunk.lean ====
module
public import proofs.«01_k».proof.Proof.Gen.KernelIdeal.Frame
public import proofs.«01_k».proof.Proof.Spec
public import Idealize.ShloMosaic.Lib.Pointwise
public import Idealize.ShloMosaic.Lib.Claim
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic Idealize.SL.Sem
open Idealize.ShloMosaic.Pipeline (Dat)

/-! The main kernel walks each block of 4096 keys in eight chunks of 512, and each chunk repeats the same arithmetic.
The lemmas of the first part say that the eight copies are the same four functions. -/

section
variable {F : FTy → Type} [FloatOps F] [Named F]
variable (v1 : Elt F .f32) (v2 : F .f32) (v4 : Elt F .f32) (v5 : Vec F S1x80x64 .bf16) (v6 : FVec F S80x64 .bf16) (v8 v12 : FVec F S64x80 .bf16)
  (v9 : Vec F S1x80x64 .fp8e5m2) (v10 : FVec F S80x64 .fp8e5m2) (k v : Vec F S1x64x512 .fp8e4m3) (e d : Vec F S1x80x128 .f32) (D P : FVec F S80x512 .bf16)
  (A : FVec F S64x80 .f32)

/-- Probabilities of a chunk. -/
theorem p19 : k1_pay19 v2 v6 k e = k1_pay12 v2 v6 k e := rfl
/-- Probabilities of a chunk. -/
theorem p26 : k1_pay26 v2 v6 k e = k1_pay12 v2 v6 k e := rfl
/-- Probabilities of a chunk. -/
theorem p32 : k1_pay32 v2 v6 k e = k1_pay12 v2 v6 k e := rfl
/-- Probabilities of a chunk. -/
theorem p40 : k1_pay40 v2 v6 k e = k1_pay12 v2 v6 k e := rfl
/-- Probabilities of a chunk. -/
theorem p47 : k1_pay47 (k1_pay45 v2 v6 k e) = k1_pay12 v2 v6 k e := rfl
/-- Score gradients of a chunk. -/
theorem d10 : k1_pay10 (k1_pay8 v1 v5 k e) (k1_pay9 v4 v9 v) d = k1_pay13 (k1_pay3 v1) v4 (k1_pay4 v5) (k1_pay6 v9) k v e d := rfl
/-- Score gradients of a chunk. -/
theorem d20 : k1_pay20 v2 v4 v6 v10 k v e d = k1_pay13 v2 v4 v6 v10 k v e d := rfl
/-- Score gradients of a chunk. -/
theorem d27 : k1_pay27 v2 v4 v6 v10 k v e d = k1_pay13 v2 v4 v6 v10 k v e d := rfl
/-- Score gradients of a chunk. -/
theorem d33 : k1_pay33 v2 v4 v6 v10 k v e d = k1_pay13 v2 v4 v6 v10 k v e d := rfl
/-- Score gradients of a chunk. -/
theorem d41 : k1_pay41 (k1_pay39 v2 v4 v6 v10 k v e d) = k1_pay13 v2 v4 v6 v10 k v e d := rfl
/-- Score gradients of a chunk. -/
theorem d48 : k1_pay48 (k1_pay45 v2 v6 k e) (k1_pay46 v4 v10 v) d = k1_pay13 v2 v4 v6 v10 k v e d := rfl
/-- Score gradients of a chunk. -/
theorem d55 : k1_pay55 (k1_pay52 v10 v) (k1_pay53 v2 v6 k e) (k1_pay54 v4) d = k1_pay13 v2 v4 v6 v10 k v e d := rfl
/-- Value gradients of a chunk. -/
theorem dv14 : k1_pay14 v12 (k1_pay8 v1 v5 k e) = k1_pay42 v12 (k1_pay12 (k1_pay3 v1) (k1_pay4 v5) k e) := rfl
/-- Value gradients of a chunk. -/
theorem dv21 : k1_pay21 v12 P = k1_pay42 v12 P := rfl
/-- Value gradients of a chunk. -/
theorem dv28 : k1_pay28 v12 P = k1_pay42 v12 P := rfl
/-- Value gradients of a chunk. -/
theorem dv35 : k1_pay35 (k1_pay34 v12 P) = k1_pay42 v12 P := rfl
/-- Value gradients of a chunk. -/
theorem dv49 : k1_pay49 v12 P = k1_pay42 v12 P := rfl
/-- Value gradients of a chunk. -/
theorem dv56 : k1_pay56 v12 P = k1_pay42 v12 P := rfl
/-- Value gradients of a chunk. -/
theorem dv59 : k1_pay59 v12 (k1_pay53 v2 v6 k e) = k1_pay42 v12 (k1_pay12 v2 v6 k e) := rfl
/-- Key gradients of a chunk. -/
theorem dk16 : k1_pay16 (k1_pay15 v8 (k1_pay8 v1 v5 k e) (k1_pay9 v4 v9 v) d) = k1_pay43 v8 (k1_pay13 (k1_pay3 v1) v4 (k1_pay4 v5) (k1_pay6 v9) k v e d) := rfl
/-- Key gradients of a chunk. -/
theorem dk23 : k1_pay23 (k1_pay22 v8 D) = k1_pay43 v8 D := rfl
/-- Key gradients of a chunk. -/
theorem dk29 : k1_pay29 v8 D = k1_pay43 v8 D := rfl
/-- Key gradients of a chunk. -/
theorem dk36 : k1_pay36 v8 D = k1_pay43 v8 D := rfl
/-- Key gradients of a chunk. -/
theorem dk50 : k1_pay50 v8 D = k1_pay43 v8 D := rfl
/-- Key gradients of a chunk. -/
theorem dk57 : k1_pay57 v8 D = k1_pay43 v8 D := rfl
/-- Key gradients of a chunk. -/
theorem dk60 : k1_pay60 v8 (k1_pay52 v10 v) (k1_pay53 v2 v6 k e) (k1_pay54 v4) d = k1_pay43 v8 (k1_pay13 v2 v4 v6 v10 k v e d) := rfl
/-- Query gradients: one more chunk added. -/
theorem q30 : k1_pay30 D A k = k1_pay24 D A k := rfl
/-- Query gradients: one more chunk added. -/
theorem q37 : k1_pay37 D A k = k1_pay24 D A k := rfl
/-- Query gradients: one more chunk added. -/
theorem q44 : k1_pay44 D A k = k1_pay24 D A k := rfl
/-- Query gradients: one more chunk added. -/
theorem q51 : k1_pay51 D A k = k1_pay24 D A k := rfl
/-- Query gradients: one more chunk added. -/
theorem q58 : k1_pay58 D A k = k1_pay24 D A k := rfl
end

/-- Key `n` of the chunk that starts at key `o`. -/
def cix (o : ℕ) (ho : o + 512 ≤ 4096) (n : Fin 512) : Fin 4096 := ⟨o + n.val, by omega⟩
/-- The probability the kernel computes for token `l` and key `n` of a block: queries `x1`, keys `x7`,
log-sum-exp `x6`, key scale `a`. -/
def bP (a : EReal) (x1 : Vec Ideal S1x80x64 .bf16) (x7 : Vec Ideal S1x64x4096 .fp8e4m3) (x6 : Vec Ideal S1x80x128 .f32)
    (l : Fin 80) (n : Fin 4096) : EReal :=
  Ideal.exp2 ((∑ d : Fin 64, x1 (ix3 0 l d) * x7 (ix3 0 d n)) * (a * ((8⁻¹ * (Real.log 2)⁻¹ : ℝ) : EReal)) - x6 (ix3 0 l 0))
/-- The score gradient for token `l` and key `n`: codes `x3`, values `x8`, delta `x5`, value factor `b`. -/
def bD (a b : EReal) (x1 : Vec Ideal S1x80x64 .bf16) (x3 : Vec Ideal S1x80x64 .fp8e5m2) (x7 x8 : Vec Ideal S1x64x4096 .fp8e4m3)
    (x6 x5 : Vec Ideal S1x80x128 .f32) (l : Fin 80) (n : Fin 4096) : EReal :=
  bP a x1 x7 x6 l n * ((∑ d : Fin 64, x3 (ix3 0 l d) * x8 (ix3 0 d n)) * b - x5 (ix3 0 l 0))

section
variable (a b q : EReal) (x1 : Vec Ideal S1x80x64 .bf16) (x2 x4 : Vec Ideal S1x64x80 .bf16) (x3 : Vec Ideal S1x80x64 .fp8e5m2)
  (x7 x8 : Vec Ideal S1x64x4096 .fp8e4m3) (x6 x5 : Vec Ideal S1x80x128 .f32) (k v : Vec Ideal S1x64x512 .fp8e4m3)
  (h6 : ∀ l n, x6 (ix3 0 l n) = x6 (ix3 0 l 0)) (h5 : ∀ l n, x5 (ix3 0 l n) = x5 (ix3 0 l 0))
  (o : ℕ) (ho : o + 512 ≤ 4096)
  (hk : ∀ d (n : Fin 512), k (ix3 0 d n) = x7 (ix3 0 d (cix o ho n)))
  (hv : ∀ d (n : Fin 512), v (ix3 0 d n) = x8 (ix3 0 d (cix o ho n)))

include h6 hk in
/-- The probabilities of the chunk that starts at key `o`. -/
theorem p_at (l : Fin 80) (n : Fin 512) :
    k1_pay12 (F := Ideal) (k1_pay3 (F := Ideal) a) (k1_pay4 x1) k x6 (ix2 l n) = bP a x1 x7 x6 l (cix o ho n) := by
  pointwise [k1_pay12, k1_pay11, k1_pay3, k1_pay4]
  simp only [h6, hk, dite_eq_ite, ite_self]
  rfl

include h6 h5 hk hv in
/-- The score gradients of the chunk that starts at key `o`. -/
theorem d_at (l : Fin 80) (n : Fin 512) :
    k1_pay13 (F := Ideal) (k1_pay3 (F := Ideal) a) b (k1_pay4 x1) (k1_pay6 x3) k v x6 x5 (ix2 l n) = bD a b x1 x3 x7 x8 x6 x5 l (cix o ho n) := by
  pointwise [k1_pay13, k1_pay11, k1_pay3, k1_pay4, k1_pay6]
  simp only [h6, h5, hk, hv, dite_eq_ite, ite_self]
  rfl

include h6 hk in
/-- The value gradients of the chunk that starts at key `o`. -/
theorem dv_at (d : Fin 64) (n : Fin 512) :
    k1_pay42 (F := Ideal) (k1_pay7 x4) (k1_pay12 (F := Ideal) (k1_pay3 (F := Ideal) a) (k1_pay4 x1) k x6) (ix3 0 d n)
      = ∑ l : Fin 80, x4 (ix3 0 d l) * bP a x1 x7 x6 l (cix o ho n) := by
  pointwise [k1_pay42, k1_pay7]
  refine Finset.sum_congr rfl fun l _ => ?_
  rw [p_at a x1 x7 x6 k h6 o ho hk]

include h6 h5 hk hv in
/-- The key gradients of the chunk that starts at key `o`. -/
theorem dk_at (d : Fin 64) (n : Fin 512) :
    k1_pay43 (F := Ideal) (k1_pay5 x2) (k1_pay13 (F := Ideal) (k1_pay3 (F := Ideal) a) b (k1_pay4 x1) (k1_pay6 x3) k v x6 x5) (ix3 0 d n)
      = ∑ l : Fin 80, x2 (ix3 0 d l) * bD a b x1 x3 x7 x8 x6 x5 l (cix o ho n) := by
  pointwise [k1_pay43, k1_pay5]
  refine Finset.sum_congr rfl fun l _ => ?_
  rw [d_at a b x1 x3 x7 x8 x6 x5 k v h6 h5 o ho hk hv]
end

/-- One grid step of the query gradient: the eight chunks are summed, scaled by `q` and added to what was there. -/
theorem q_at (D0 D1 D2 D3 D4 D5 D6 D7 : FVec Ideal S80x512 .bf16) (K0 K1 K2 K3 K4 K5 K6 K7 : Vec Ideal S1x64x512 .fp8e4m3)
    (acc : Vec Ideal S1x64x80 .f32) (q : EReal) (d : Fin 64) (l : Fin 80) :
    k1_pay2 (F := Ideal) D7 (k1_pay24 D6 (k1_pay24 D5 (k1_pay24 D4 (k1_pay24 D3 (k1_pay24 D2 (k1_pay24 D1 (k1_pay17 D0 K0) K1) K2) K3) K4) K5) K6) K7
        acc q (ix3 0 d l)
      = acc (ix3 0 d l) + ((∑ n : Fin 512, K0 (ix3 0 d n) * D0 (ix2 l n)) + (∑ n : Fin 512, K1 (ix3 0 d n) * D1 (ix2 l n))
        + (∑ n : Fin 512, K2 (ix3 0 d n) * D2 (ix2 l n)) + (∑ n : Fin 512, K3 (ix3 0 d n) * D3 (ix2 l n))
        + (∑ n : Fin 512, K4 (ix3 0 d n) * D4 (ix2 l n)) + (∑ n : Fin 512, K5 (ix3 0 d n) * D5 (ix2 l n))
        + (∑ n : Fin 512, K6 (ix3 0 d n) * D6 (ix2 l n)) + (∑ n : Fin 512, K7 (ix3 0 d n) * D7 (ix2 l n))) * q := by
  pointwise [k1_pay2, k1_pay24, k1_pay17]
end Cert.KernelIdeal.Gen
end
-- ==== Proof.Step.lean ====
module
public import proofs.«01_k».proof.Proof.Gen.KernelIdeal.Frame
public import proofs.«01_k».proof.Proof.Chunk
public import Idealize.ShloMosaic.Lib.Pointwise
public import Idealize.ShloMosaic.Lib.Claim
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic Idealize.SL.Sem
open Idealize.ShloMosaic.Pipeline (Dat)

/-- A chunk of a block, read at an index. -/
theorem ld_at (X : Vec Ideal S1x64x4096 .fp8e4m3) (o : ℕ) (ho : o + 512 ≤ 4096)
    (inb : ∀ a, (![0, 0, o] : Fin 3 → ℕ) a + (![1, 64, 512] : Fin 3 → ℕ) a ≤ S1x64x4096.size a) (d : Fin 64) (n : Fin 512) :
    View.ld X (Rect.unit ![0, 0, o] ![1, 64, 512] inb) (ix3 0 d n) = X (ix3 0 d (cix o ho n)) := by
  show X _ = X _
  congr 1
  funext a
  apply Fin.ext
  fin_cases a <;> simp [Rect.unit, Rect.emb, cix]

/-- Grid point `t` reads the three scalars of head `t / 10`. -/
theorem off1 : ∀ t : Fin cfg1.N, k1_off1 (grid1.coords t) = ![t.val / 10, 0] := (by decide +kernel : ∀ t : Fin grid1.N, _)
/-- The second scalar. -/
theorem off2 : ∀ t : Fin cfg1.N, k1_off2 (grid1.coords t) = ![t.val / 10, 1] := (by decide +kernel : ∀ t : Fin grid1.N, _)
/-- The third scalar. -/
theorem off3 : ∀ t : Fin cfg1.N, k1_off3 (grid1.coords t) = ![t.val / 10, 2] := (by decide +kernel : ∀ t : Fin grid1.N, _)

/-- A scalar read of the table. -/
theorem smem_at (X : Vec Ideal S48x3 .f32) (off : Fin 2 → ℕ) (inb : ∀ a, off a + (![1, 1] : Fin 2 → ℕ) a ≤ S48x3.size a) (e)
    (i : Fin 48) (j : Fin 3) (h : off = ![i.val, j.val]) :
    View.ld X (Rect.unit off ![1, 1] inb) e = X (ix2 i j) := by
  show X _ = X _
  congr 1
  funext a
  apply Fin.ext
  subst h
  fin_cases a <;> simp [Rect.unit, Rect.emb]

/-- Eight chunk sums make the sum over the block. -/
theorem sum8 (F : Fin 4096 → EReal) :
    (∑ n : Fin 512, F (cix 0 (by decide) n)) + (∑ n : Fin 512, F (cix 512 (by decide) n)) + (∑ n : Fin 512, F (cix 1024 (by decide) n))
      + (∑ n : Fin 512, F (cix 1536 (by decide) n)) + (∑ n : Fin 512, F (cix 2048 (by decide) n)) + (∑ n : Fin 512, F (cix 2560 (by decide) n))
      + (∑ n : Fin 512, F (cix 3072 (by decide) n)) + (∑ n : Fin 512, F (cix 3584 (by decide) n)) = ∑ n : Fin 4096, F n := by
  rw [Fin.sum_univ_tiles 8 512 rfl F, Fin.sum_univ_eight]
  rfl

/-- The same for products. -/
theorem sum8X (X : Vec Ideal S1x64x4096 .fp8e4m3) (D : Fin 4096 → EReal) (d : Fin 64) :
    (∑ n : Fin 512, X (ix3 0 d (cix 0 (by decide) n)) * D (cix 0 (by decide) n))
      + (∑ n : Fin 512, X (ix3 0 d (cix 512 (by decide) n)) * D (cix 512 (by decide) n))
      + (∑ n : Fin 512, X (ix3 0 d (cix 1024 (by decide) n)) * D (cix 1024 (by decide) n))
      + (∑ n : Fin 512, X (ix3 0 d (cix 1536 (by decide) n)) * D (cix 1536 (by decide) n))
      + (∑ n : Fin 512, X (ix3 0 d (cix 2048 (by decide) n)) * D (cix 2048 (by decide) n))
      + (∑ n : Fin 512, X (ix3 0 d (cix 2560 (by decide) n)) * D (cix 2560 (by decide) n))
      + (∑ n : Fin 512, X (ix3 0 d (cix 3072 (by decide) n)) * D (cix 3072 (by decide) n))
      + (∑ n : Fin 512, X (ix3 0 d (cix 3584 (by decide) n)) * D (cix 3584 (by decide) n))
      = ∑ n : Fin 4096, X (ix3 0 d n) * D n := sum8 fun n => X (ix3 0 d n) * D n

section
variable (a b : EReal) (x1 : Vec Ideal S1x80x64 .bf16) (x2 x4 : Vec Ideal S1x64x80 .bf16) (x3 : Vec Ideal S1x80x64 .fp8e5m2)
  (x7 x8 : Vec Ideal S1x64x4096 .fp8e4m3) (x6 x5 : Vec Ideal S1x80x128 .f32)
  (h6 : ∀ l n, x6 (ix3 0 l n) = x6 (ix3 0 l 0)) (h5 : ∀ l n, x5 (ix3 0 l n) = x5 (ix3 0 l 0))

include h6 h5 in
/-- One stored piece of the key gradient, in place. -/
theorem dk_piece (o : ℕ) (inb inb') (x : S1x64x512.Idx) (y : S1x64x4096.Idx) (ho : o + 512 ≤ 4096)
    (e1 : (y 1 : ℕ) = (x 1 : ℕ)) (e2 : (y 2 : ℕ) = o + (x 2 : ℕ)) :
    k1_pay43 (F := Ideal) (k1_pay5 x2) (k1_pay13 (F := Ideal) (k1_pay3 (F := Ideal) a) b (k1_pay4 x1) (k1_pay6 x3)
        (View.ld x7 (Rect.unit ![0, 0, o] ![1, 64, 512] inb)) (View.ld x8 (Rect.unit ![0, 0, o] ![1, 64, 512] inb')) x6 x5) x
      = ∑ l : Fin 80, x2 (ix3 0 (y 1) l) * bD a b x1 x3 x7 x8 x6 x5 l (y 2) := by
  have ex : x = ix3 0 (x 1) (x 2) := (eq_ix3 x).trans (congrArg (fun z : Fin 1 => ix3 z (x 1) (x 2)) (Subsingleton.elim _ _))
  refine (congrArg _ ex).trans ((dk_at a b x1 x2 x3 x7 x8 x6 x5 _ _ h6 h5 o ho (ld_at x7 o ho inb) (ld_at x8 o ho inb') (x 1) (x 2)).trans ?_)
  have f1 : y 1 = x 1 := Fin.ext e1
  have f2 : y 2 = cix o ho (x 2) := Fin.ext e2
  rw [f1, f2]

include h6 in
/-- One stored piece of the value gradient, in place. -/
theorem dv_piece (o : ℕ) (inb) (x : S1x64x512.Idx) (y : S1x64x4096.Idx) (ho : o + 512 ≤ 4096)
    (e1 : (y 1 : ℕ) = (x 1 : ℕ)) (e2 : (y 2 : ℕ) = o + (x 2 : ℕ)) :
    k1_pay42 (F := Ideal) (k1_pay7 x4) (k1_pay12 (F := Ideal) (k1_pay3 (F := Ideal) a) (k1_pay4 x1)
        (View.ld x7 (Rect.unit ![0, 0, o] ![1, 64, 512] inb)) x6) x
      = ∑ l : Fin 80, x4 (ix3 0 (y 1) l) * bP a x1 x7 x6 l (y 2) := by
  have ex : x = ix3 0 (x 1) (x 2) := (eq_ix3 x).trans (congrArg (fun z : Fin 1 => ix3 z (x 1) (x 2)) (Subsingleton.elim _ _))
  refine (congrArg _ ex).trans ((dv_at a x1 x4 x7 x6 _ h6 o ho (ld_at x7 o ho inb) (x 1) (x 2)).trans ?_)
  have f1 : y 1 = x 1 := Fin.ext e1
  have f2 : y 2 = cix o ho (x 2) := Fin.ext e2
  rw [f1, f2]
end

variable (V : (c : Dev nD) → (b : Ref sig .tc) → Buf (Elt Ideal) ((c : Thread nD τ).loc b))

/-- The table of scalars. -/
abbrev B0 (c : Dev nD) (t : Fin cfg1.N) : Vec Ideal S48x3 .f32 := iblk1 V c 0 t
/-- The query block, tokens first. -/
abbrev B1 (c : Dev nD) (t : Fin cfg1.N) : Vec Ideal S1x80x64 .bf16 := iblk1 V c 1 t
/-- The scaled query block, channels first. -/
abbrev B2 (c : Dev nD) (t : Fin cfg1.N) : Vec Ideal S1x64x80 .bf16 := iblk1 V c 2 t
/-- The codes, tokens first. -/
abbrev B3 (c : Dev nD) (t : Fin cfg1.N) : Vec Ideal S1x80x64 .fp8e5m2 := iblk1 V c 3 t
/-- The scaled codes, channels first. -/
abbrev B4 (c : Dev nD) (t : Fin cfg1.N) : Vec Ideal S1x64x80 .bf16 := iblk1 V c 4 t
/-- The delta tile. -/
abbrev B5 (c : Dev nD) (t : Fin cfg1.N) : Vec Ideal S1x80x128 .f32 := iblk1 V c 5 t
/-- The log-sum-exp tile. -/
abbrev B6 (c : Dev nD) (t : Fin cfg1.N) : Vec Ideal S1x80x128 .f32 := iblk1 V c 6 t
/-- The key block. -/
abbrev B7 (c : Dev nD) (t : Fin cfg1.N) : Vec Ideal S1x64x4096 .fp8e4m3 := iblk1 V c 7 t
/-- The value block. -/
abbrev B8 (c : Dev nD) (t : Fin cfg1.N) : Vec Ideal S1x64x4096 .fp8e4m3 := iblk1 V c 8 t

section
variable (c : Dev nD) (t : Fin cfg1.N) (i : Fin 48) (hi : i.val = t.val / 10)
  (h6 : ∀ l n, B6 V c t (ix3 0 l n) = B6 V c t (ix3 0 l 0)) (h5 : ∀ l n, B5 V c t (ix3 0 l n) = B5 V c t (ix3 0 l 0))

include hi h6 h5 in
/-- The key gradient block point `t` leaves. -/
theorem dk_point (y : S1x64x4096.Idx) : (outsAt1 V c t.val t.isLt).2.1 y
    = ∑ l : Fin 80, B2 V c t (ix3 0 (y 1) l) * bD (B0 V c t (ix2 i 0)) (B0 V c t (ix2 i 1)) (B1 V c t) (B3 V c t) (B7 V c t) (B8 V c t) (B6 V c t) (B5 V c t) l (y 2) := by
  by_cases h : t.val % 10 = 0
  · skip
    rw [outsAt1_A V c t h]; frame_out
    simp only [p19, p26, p32, p40, p47, d10, d20, d27, d33, d41, d48, d55, dv14, dv21, dv28, dv35, dv49, dv56, dv59, dk16, dk23, dk29, dk36,
    dk50, dk57, dk60, q30, q37, q44, q51, q58]
    simp only [B0, B1, B2, B3, B4, B5, B6, B7, B8] at *
    generalize iblk1 V c 0 t = x0
    generalize iblk1 V c 1 t = x1 at *
    generalize iblk1 V c 2 t = x2 at *
    generalize iblk1 V c 3 t = x3 at *
    generalize iblk1 V c 4 t = x4 at *
    generalize iblk1 V c 5 t = x5 at *
    generalize iblk1 V c 6 t = x6 at *
    generalize iblk1 V c 7 t = x7 at *
    generalize iblk1 V c 8 t = x8 at *
    simp only [fun inb e => smem_at x0 (k1_off1 (grid1.coords t)) inb e i 0 (by rw [off1 t, hi]; rfl),
      fun inb e => smem_at x0 (k1_off2 (grid1.coords t)) inb e i 1 (by rw [off2 t, hi]; rfl),
      fun inb e => smem_at x0 (k1_off3 (grid1.coords t)) inb e i 2 (by rw [off3 t, hi]; rfl)]
    canon_tiles x hh
    all_goals exact dk_piece _ _ x1 x2 x3 x7 x8 x6 x5 h6 h5 _ _ _ x y (by omega) (by omega) (by omega)
  · skip
    rw [outsAt1_B V c t h]; frame_out
    simp only [p19, p26, p32, p40, p47, d10, d20, d27, d33, d41, d48, d55, dv14, dv21, dv28, dv35, dv49, dv56, dv59, dk16, dk23, dk29, dk36,
    dk50, dk57, dk60, q30, q37, q44, q51, q58]
    simp only [B0, B1, B2, B3, B4, B5, B6, B7, B8] at *
    generalize iblk1 V c 0 t = x0
    generalize iblk1 V c 1 t = x1 at *
    generalize iblk1 V c 2 t = x2 at *
    generalize iblk1 V c 3 t = x3 at *
    generalize iblk1 V c 4 t = x4 at *
    generalize iblk1 V c 5 t = x5 at *
    generalize iblk1 V c 6 t = x6 at *
    generalize iblk1 V c 7 t = x7 at *
    generalize iblk1 V c 8 t = x8 at *
    simp only [fun inb e => smem_at x0 (k1_off1 (grid1.coords t)) inb e i 0 (by rw [off1 t, hi]; rfl),
      fun inb e => smem_at x0 (k1_off2 (grid1.coords t)) inb e i 1 (by rw [off2 t, hi]; rfl),
      fun inb e => smem_at x0 (k1_off3 (grid1.coords t)) inb e i 2 (by rw [off3 t, hi]; rfl)]
    canon_tiles x hh
    all_goals exact dk_piece _ _ x1 x2 x3 x7 x8 x6 x5 h6 h5 _ _ _ x y (by omega) (by omega) (by omega)

include hi h6 in
/-- The value gradient block point `t` leaves. -/
theorem dv_point (y : S1x64x4096.Idx) : (outsAt1 V c t.val t.isLt).2.2 y
    = ∑ l : Fin 80, B4 V c t (ix3 0 (y 1) l) * bP (B0 V c t (ix2 i 0)) (B1 V c t) (B7 V c t) (B6 V c t) l (y 2) := by
  by_cases h : t.val % 10 = 0
  · skip
    rw [outsAt1_A V c t h]; frame_out
    simp only [p19, p26, p32, p40, p47, d10, d20, d27, d33, d41, d48, d55, dv14, dv21, dv28, dv35, dv49, dv56, dv59, dk16, dk23, dk29, dk36,
    dk50, dk57, dk60, q30, q37, q44, q51, q58]
    simp only [B0, B1, B2, B3, B4, B5, B6, B7, B8] at *
    generalize iblk1 V c 0 t = x0
    generalize iblk1 V c 1 t = x1 at *
    generalize iblk1 V c 2 t = x2 at *
    generalize iblk1 V c 3 t = x3 at *
    generalize iblk1 V c 4 t = x4 at *
    generalize iblk1 V c 5 t = x5 at *
    generalize iblk1 V c 6 t = x6 at *
    generalize iblk1 V c 7 t = x7 at *
    generalize iblk1 V c 8 t = x8 at *
    simp only [fun inb e => smem_at x0 (k1_off1 (grid1.coords t)) inb e i 0 (by rw [off1 t, hi]; rfl),
      fun inb e => smem_at x0 (k1_off2 (grid1.coords t)) inb e i 1 (by rw [off2 t, hi]; rfl),
      fun inb e => smem_at x0 (k1_off3 (grid1.coords t)) inb e i 2 (by rw [off3 t, hi]; rfl)]
    canon_tiles x hh
    all_goals exact dv_piece _ x1 x4 x7 x6 h6 _ _ x y (by omega) (by omega) (by omega)
  · skip
    rw [outsAt1_B V c t h]; frame_out
    simp only [p19, p26, p32, p40, p47, d10, d20, d27, d33, d41, d48, d55, dv14, dv21, dv28, dv35, dv49, dv56, dv59, dk16, dk23, dk29, dk36,
    dk50, dk57, dk60, q30, q37, q44, q51, q58]
    simp only [B0, B1, B2, B3, B4, B5, B6, B7, B8] at *
    generalize iblk1 V c 0 t = x0
    generalize iblk1 V c 1 t = x1 at *
    generalize iblk1 V c 2 t = x2 at *
    generalize iblk1 V c 3 t = x3 at *
    generalize iblk1 V c 4 t = x4 at *
    generalize iblk1 V c 5 t = x5 at *
    generalize iblk1 V c 6 t = x6 at *
    generalize iblk1 V c 7 t = x7 at *
    generalize iblk1 V c 8 t = x8 at *
    simp only [fun inb e => smem_at x0 (k1_off1 (grid1.coords t)) inb e i 0 (by rw [off1 t, hi]; rfl),
      fun inb e => smem_at x0 (k1_off2 (grid1.coords t)) inb e i 1 (by rw [off2 t, hi]; rfl),
      fun inb e => smem_at x0 (k1_off3 (grid1.coords t)) inb e i 2 (by rw [off3 t, hi]; rfl)]
    canon_tiles x hh
    all_goals exact dv_piece _ x1 x4 x7 x6 h6 _ _ x y (by omega) (by omega) (by omega)

/-- What one grid step adds to the query gradient. -/
def qTerm (c : Dev nD) (t : Fin cfg1.N) (i : Fin 48) (d : Fin 64) (l : Fin 80) : EReal :=
  (∑ n : Fin 4096, B7 V c t (ix3 0 d n) * bD (B0 V c t (ix2 i 0)) (B0 V c t (ix2 i 1)) (B1 V c t) (B3 V c t) (B7 V c t) (B8 V c t) (B6 V c t) (B5 V c t) l n) * B0 V c t (ix2 i 2)

include hi h6 h5 in
/-- The first step of a head starts from zero. -/
theorem q_first (h : t.val % 10 = 0) (d : Fin 64) (l : Fin 80) :
    (outsAt1 V c t.val t.isLt).1 (ix3 0 d l) = 0 + qTerm V c t i d l := by
    unfold qTerm
    rw [outsAt1_A V c t h]; frame_out
    simp only [p19, p26, p32, p40, p47, d10, d20, d27, d33, d41, d48, d55, dv14, dv21, dv28, dv35, dv49, dv56, dv59, dk16, dk23, dk29, dk36,
    dk50, dk57, dk60, q30, q37, q44, q51, q58]
    simp only [B0, B1, B2, B3, B4, B5, B6, B7, B8] at *
    generalize iblk1 V c 0 t = x0
    generalize iblk1 V c 1 t = x1 at *
    generalize iblk1 V c 2 t = x2 at *
    generalize iblk1 V c 3 t = x3 at *
    generalize iblk1 V c 4 t = x4 at *
    generalize iblk1 V c 5 t = x5 at *
    generalize iblk1 V c 6 t = x6 at *
    generalize iblk1 V c 7 t = x7 at *
    generalize iblk1 V c 8 t = x8 at *
    simp only [fun inb e => smem_at x0 (k1_off1 (grid1.coords t)) inb e i 0 (by rw [off1 t, hi]; rfl),
      fun inb e => smem_at x0 (k1_off2 (grid1.coords t)) inb e i 1 (by rw [off2 t, hi]; rfl),
      fun inb e => smem_at x0 (k1_off3 (grid1.coords t)) inb e i 2 (by rw [off3 t, hi]; rfl)]
    rw [q_at]
    have dd := fun o ho inb inb' => d_at (x0 (ix2 i 0)) (x0 (ix2 i 1)) x1 x3 x7 x8 x6 x5 (View.ld x7 (Rect.unit ![0, 0, o] ![1, 64, 512] inb))
      (View.ld x8 (Rect.unit ![0, 0, o] ![1, 64, 512] inb')) h6 h5 o ho (ld_at x7 o ho inb) (ld_at x8 o ho inb')
    simp only [ld_at x7 0 (by omega), ld_at x7 512 (by omega), ld_at x7 1024 (by omega), ld_at x7 1536 (by omega), ld_at x7 2048 (by omega), ld_at x7 2560 (by omega), ld_at x7 3072 (by omega), ld_at x7 3584 (by omega), dd 0 (by omega), dd 512 (by omega), dd 1024 (by omega), dd 1536 (by omega), dd 2048 (by omega), dd 2560 (by omega), dd 3072 (by omega), dd 3584 (by omega)]
    refine congrArg₂ (fun y z : EReal => y + z * x0 (ix2 i 2)) ?_ (sum8X x7 (bD (x0 (ix2 i 0)) (x0 (ix2 i 1)) x1 x3 x7 x8 x6 x5 l) d)
    pointwise [k1_pay1]

include hi h6 h5 in
/-- The later steps add to what the step before left. -/
theorem q_next (h : ¬ t.val % 10 = 0) (d : Fin 64) (l : Fin 80) :
    (outsAt1 V c t.val t.isLt).1 (ix3 0 d l) = (outsAt1 V c (t.val - 1) (by omega)).1 (ix3 0 d l) + qTerm V c t i d l := by
    unfold qTerm
    rw [outsAt1_B V c t h]; frame_out
    simp only [p19, p26, p32, p40, p47, d10, d20, d27, d33, d41, d48, d55, dv14, dv21, dv28, dv35, dv49, dv56, dv59, dk16, dk23, dk29, dk36,
    dk50, dk57, dk60, q30, q37, q44, q51, q58]
    simp only [B0, B1, B2, B3, B4, B5, B6, B7, B8] at *
    generalize iblk1 V c 0 t = x0
    generalize iblk1 V c 1 t = x1 at *
    generalize iblk1 V c 2 t = x2 at *
    generalize iblk1 V c 3 t = x3 at *
    generalize iblk1 V c 4 t = x4 at *
    generalize iblk1 V c 5 t = x5 at *
    generalize iblk1 V c 6 t = x6 at *
    generalize iblk1 V c 7 t = x7 at *
    generalize iblk1 V c 8 t = x8 at *
    simp only [fun inb e => smem_at x0 (k1_off1 (grid1.coords t)) inb e i 0 (by rw [off1 t, hi]; rfl),
      fun inb e => smem_at x0 (k1_off2 (grid1.coords t)) inb e i 1 (by rw [off2 t, hi]; rfl),
      fun inb e => smem_at x0 (k1_off3 (grid1.coords t)) inb e i 2 (by rw [off3 t, hi]; rfl)]
    rw [q_at]
    have dd := fun o ho inb inb' => d_at (x0 (ix2 i 0)) (x0 (ix2 i 1)) x1 x3 x7 x8 x6 x5 (View.ld x7 (Rect.unit ![0, 0, o] ![1, 64, 512] inb))
      (View.ld x8 (Rect.unit ![0, 0, o] ![1, 64, 512] inb')) h6 h5 o ho (ld_at x7 o ho inb) (ld_at x8 o ho inb')
    simp only [ld_at x7 0 (by omega), ld_at x7 512 (by omega), ld_at x7 1024 (by omega), ld_at x7 1536 (by omega), ld_at x7 2048 (by omega), ld_at x7 2560 (by omega), ld_at x7 3072 (by omega), ld_at x7 3584 (by omega), dd 0 (by omega), dd 512 (by omega), dd 1024 (by omega), dd 1536 (by omega), dd 2048 (by omega), dd 2560 (by omega), dd 3072 (by omega), dd 3584 (by omega)]
    refine congrArg₂ (fun y z : EReal => y + z * x0 (ix2 i 2)) ?_ (sum8X x7 (bD (x0 (ix2 i 0)) (x0 (ix2 i 1)) x1 x3 x7 x8 x6 x5 l) d)
    rfl
end
end Cert.KernelIdeal.Gen
end
-- ==== Proof.Main.lean ====
module
public import proofs.«01_k».proof.Proof.Gen.KernelIdeal.Frame
public import proofs.«01_k».proof.Proof.Step
public import Idealize.ShloMosaic.Lib.Pointwise
public import Idealize.ShloMosaic.Lib.Claim
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))

/-- The block each window reads or writes at a grid point: `t / 10` is the head (batch-major), `t % 10` the key block. -/
theorem idx1 : ∀ t : Fin cfg1.N, win1_0.index t = ![0, 0] ∧ win1_1.index t = ![t.val / 10 % 16, 0, 0] ∧ win1_2.index t = ![t.val / 10 % 16, 0, 0]
    ∧ win1_3.index t = ![t.val / 10, 0, 0] ∧ win1_4.index t = ![t.val / 10, 0, 0] ∧ win1_5.index t = ![t.val / 10, 0, 0]
    ∧ win1_6.index t = ![t.val / 10, 0, 0] ∧ win1_7.index t = ![t.val / 10, 0, t.val % 10] ∧ win1_8.index t = ![t.val / 10, 0, t.val % 10]
    ∧ win1_9.index t = ![t.val / 10, 0, 0] ∧ win1_10.index t = ![t.val / 10, 0, t.val % 10] ∧ win1_11.index t = ![t.val / 10, 0, t.val % 10] :=
  (by decide +kernel : ∀ t : Fin grid1.N, _)

/-- The head number of row `i`. -/
def hd (i : Fin 48) : Fin 16 := ⟨i.val % 16, by omega⟩
/-- Key `n` of key block `s`. -/
def key (s : Fin 10) (n : Fin 4096) : Fin 40960 := ⟨s.val * 4096 + n.val, by omega⟩

/-- Array `main_v24` on entry of the main kernel. -/
abbrev A24 (c : Dev nD) : Vec Ideal S48x3 .f32 := V c main_v24
/-- Array `main_v9` on entry of the main kernel. -/
abbrev A9 (c : Dev nD) : Vec Ideal S16x80x64 .bf16 := V c main_v9
/-- Array `main_v11` on entry of the main kernel. -/
abbrev A11 (c : Dev nD) : Vec Ideal S16x64x80 .bf16 := V c main_v11
/-- Array `main_v13_1` on entry of the main kernel. -/
abbrev A13_1 (c : Dev nD) : Vec Ideal S48x80x64 .fp8e5m2 := V c main_v13_1
/-- Array `main_v13_2` on entry of the main kernel. -/
abbrev A13_2 (c : Dev nD) : Vec Ideal S48x64x80 .bf16 := V c main_v13_2
/-- Array `main_v13_4` on entry of the main kernel. -/
abbrev A13_4 (c : Dev nD) : Vec Ideal S48x80x128 .f32 := V c main_v13_4
/-- Array `main_v13_5` on entry of the main kernel. -/
abbrev A13_5 (c : Dev nD) : Vec Ideal S48x80x128 .f32 := V c main_v13_5
/-- Array `main_v1` on entry of the main kernel. -/
abbrev A1 (c : Dev nD) : Vec Ideal S48x64x40960 .fp8e4m3 := V c main_v1
/-- Array `main_v3` on entry of the main kernel. -/
abbrev A3 (c : Dev nD) : Vec Ideal S48x64x40960 .fp8e4m3 := V c main_v3

/-- The probability for row `i`, token `l` and key `n`. -/
def AP (c : Dev nD) (i : Fin 48) (l : Fin 80) (n : Fin 40960) : EReal :=
  Ideal.exp2 ((∑ d : Fin 64, A9 V c (ix3 (hd i) l d) * A1 V c (ix3 i d n)) * (A24 V c (ix2 i 0) * ((8⁻¹ * (Real.log 2)⁻¹ : ℝ) : EReal)) - A13_5 V c (ix3 i l 0))
/-- The score gradient for row `i`, token `l` and key `n`. -/
def AD (c : Dev nD) (i : Fin 48) (l : Fin 80) (n : Fin 40960) : EReal :=
  AP V c i l n * ((∑ d : Fin 64, A13_1 V c (ix3 i l d) * A3 V c (ix3 i d n)) * A24 V c (ix2 i 1) - A13_4 V c (ix3 i l 0))

section
variable (c : Dev nD) (t : Fin cfg1.N) (i : Fin 48) (hi : i.val = t.val / 10)
/-- Block 0, read at an index. -/
theorem b0_at (r : Fin 48) (j : Fin 3) : B0 V c t (ix2 r j) = A24 V c (ix2 r j) := by
  show iblk1 V c 0 t _ = V c main_v24 _
  unfold iblk1
  blk_simp
  blk_ext [idx1 t, hd, key]

include hi in
/-- Block 1, read at an index. -/
theorem b1_at (l : Fin 80) (d : Fin 64) : B1 V c t (ix3 0 l d) = A9 V c (ix3 (hd i) l d) := by
  show iblk1 V c 1 t _ = V c main_v9 _
  unfold iblk1
  blk_simp
  blk_ext [idx1 t, hd, key]

include hi in
/-- Block 2, read at an index. -/
theorem b2_at (d : Fin 64) (l : Fin 80) : B2 V c t (ix3 0 d l) = A11 V c (ix3 (hd i) d l) := by
  show iblk1 V c 2 t _ = V c main_v11 _
  unfold iblk1
  blk_simp
  blk_ext [idx1 t, hd, key]

include hi in
/-- Block 3, read at an index. -/
theorem b3_at (l : Fin 80) (d : Fin 64) : B3 V c t (ix3 0 l d) = A13_1 V c (ix3 i l d) := by
  show iblk1 V c 3 t _ = V c main_v13_1 _
  unfold iblk1
  blk_simp
  blk_ext [idx1 t, hd, key]

include hi in
/-- Block 4, read at an index. -/
theorem b4_at (d : Fin 64) (l : Fin 80) : B4 V c t (ix3 0 d l) = A13_2 V c (ix3 i d l) := by
  show iblk1 V c 4 t _ = V c main_v13_2 _
  unfold iblk1
  blk_simp
  blk_ext [idx1 t, hd, key]

include hi in
/-- Block 5, read at an index. -/
theorem b5_at (l : Fin 80) (n : Fin 128) : B5 V c t (ix3 0 l n) = A13_4 V c (ix3 i l n) := by
  show iblk1 V c 5 t _ = V c main_v13_4 _
  unfold iblk1
  blk_simp
  blk_ext [idx1 t, hd, key]

include hi in
/-- Block 6, read at an index. -/
theorem b6_at (l : Fin 80) (n : Fin 128) : B6 V c t (ix3 0 l n) = A13_5 V c (ix3 i l n) := by
  show iblk1 V c 6 t _ = V c main_v13_5 _
  unfold iblk1
  blk_simp
  blk_ext [idx1 t, hd, key]

include hi in
/-- Block 7, read at an index. -/
theorem b7_at (s : Fin 10) (hs : s.val = t.val % 10) (d : Fin 64) (n : Fin 4096) : B7 V c t (ix3 0 d n) = A1 V c (ix3 i d (key s n)) := by
  show iblk1 V c 7 t _ = V c main_v1 _
  unfold iblk1
  blk_simp
  blk_ext [idx1 t, hd, key]

include hi in
/-- Block 8, read at an index. -/
theorem b8_at (s : Fin 10) (hs : s.val = t.val % 10) (d : Fin 64) (n : Fin 4096) : B8 V c t (ix3 0 d n) = A3 V c (ix3 i d (key s n)) := by
  show iblk1 V c 8 t _ = V c main_v3 _
  unfold iblk1
  blk_simp
  blk_ext [idx1 t, hd, key]

variable (s : Fin 10) (hs : s.val = t.val % 10)

include hi hs in
/-- The block's probabilities are the array's. -/
theorem bP_eq (l : Fin 80) (n : Fin 4096) :
    bP (B0 V c t (ix2 i 0)) (B1 V c t) (B7 V c t) (B6 V c t) l n = AP V c i l (key s n) := by
  unfold bP AP
  simp only [b0_at V c t, b1_at V c t i hi, b6_at V c t i hi, b7_at V c t i hi s hs]

include hi hs in
/-- The block's score gradients are the array's. -/
theorem bD_eq (l : Fin 80) (n : Fin 4096) :
    bD (B0 V c t (ix2 i 0)) (B0 V c t (ix2 i 1)) (B1 V c t) (B3 V c t) (B7 V c t) (B8 V c t) (B6 V c t) (B5 V c t) l n = AD V c i l (key s n) := by
  unfold bD AD
  rw [bP_eq V c t i hi s hs]
  simp only [b0_at V c t, b3_at V c t i hi, b5_at V c t i hi, b8_at V c t i hi s hs]
end

/-- What one key block adds to the query gradient. -/
def AQ (c : Dev nD) (i : Fin 48) (d : Fin 64) (l : Fin 80) (s : Fin 10) : EReal :=
  (∑ n : Fin 4096, A1 V c (ix3 i d (key s n)) * AD V c i l (key s n)) * A24 V c (ix2 i 2)

/-- One grid step of the query gradient, in terms of the arrays. -/
theorem qTerm_eq (c : Dev nD) (t : Fin cfg1.N) (i : Fin 48) (hi : i.val = t.val / 10) (s : Fin 10) (hs : s.val = t.val % 10) (d : Fin 64) (l : Fin 80) :
    qTerm V c t i d l = AQ V c i d l s := by
  unfold qTerm AQ
  simp only [bD_eq V c t i hi s hs]
  simp only [b7_at V c t i hi s hs, b0_at V c t]

section
variable (c : Dev nD) (h5 : ∀ i l n, A13_4 V c (ix3 i l n) = A13_4 V c (ix3 i l 0)) (h6 : ∀ i l n, A13_5 V c (ix3 i l n) = A13_5 V c (ix3 i l 0))

/-- Where block `t` of the key gradient lies. -/
theorem emb10 (t : Fin cfg1.N) (i : Fin 48) (hi : i.val = t.val / 10) (s : Fin 10) (hs : s.val = t.val % 10) (y0 y1 y2) :
    ((View.whole main_v25_1).slice (win1_10.rect t)).emb (ix3 y0 y1 y2) = ix3 i y1 (key s y2) := by
  blk_ext [idx1 t, key]
/-- Where block `t` of the value gradient lies. -/
theorem emb11 (t : Fin cfg1.N) (i : Fin 48) (hi : i.val = t.val / 10) (s : Fin 10) (hs : s.val = t.val % 10) (y0 y1 y2) :
    ((View.whole main_v25_2).slice (win1_11.rect t)).emb (ix3 y0 y1 y2) = ix3 i y1 (key s y2) := by
  blk_ext [idx1 t, key]
/-- Where block `t` of the query gradient lies. -/
theorem emb9 (t : Fin cfg1.N) (i : Fin 48) (hi : i.val = t.val / 10) (y0 y1 y2) :
    ((View.whole main_v25_0).slice (win1_9.rect t)).emb (ix3 y0 y1 y2) = ix3 i y1 y2 := by
  blk_ext [idx1 t]

include h5 h6 in
/-- The key gradient after the whole grid. -/
theorem final10 : (dat1 V c).arrAt 10 cfg1.N = fun j => ∑ l : Fin 80, A11 V c (ix3 (hd (j 0)) (j 1) l) * AD V c (j 0) l (j 2) := by
  refine (dat1 V c).arrAt_eq_of_covers 10 _ (by decide +kernel) fun t _ y => ?_
  idx_vars y
  blk_simp
  have hy : y0 = 0 := Subsingleton.elim _ _
  subst hy
  have ht : t.val < 480 := t.isLt.trans_eq N_1
  obtain ⟨i, hi⟩ : ∃ i : Fin 48, i.val = t.val / 10 := ⟨⟨t.val / 10, by omega⟩, rfl⟩
  obtain ⟨s, hs⟩ : ∃ s : Fin 10, s.val = t.val % 10 := ⟨⟨t.val % 10, by omega⟩, rfl⟩
  rw [after1_10, emb10 t i hi s hs, dk_point V c t i hi (fun l n => by rw [b6_at V c t i hi, b6_at V c t i hi, h6]) (fun l n => by rw [b5_at V c t i hi, b5_at V c t i hi, h5])]
  refine Fin.sum_fin_congr fun l => ?_
  exact congrArg₂ (· * ·) (b2_at V c t i hi _ l) (bD_eq V c t i hi s hs l _)

include h6 in
/-- The value gradient after the whole grid. -/
theorem final11 : (dat1 V c).arrAt 11 cfg1.N = fun j => ∑ l : Fin 80, A13_2 V c (ix3 (j 0) (j 1) l) * AP V c (j 0) l (j 2) := by
  refine (dat1 V c).arrAt_eq_of_covers 11 _ (by decide +kernel) fun t _ y => ?_
  idx_vars y
  blk_simp
  have hy : y0 = 0 := Subsingleton.elim _ _
  subst hy
  have ht : t.val < 480 := t.isLt.trans_eq N_1
  obtain ⟨i, hi⟩ : ∃ i : Fin 48, i.val = t.val / 10 := ⟨⟨t.val / 10, by omega⟩, rfl⟩
  obtain ⟨s, hs⟩ : ∃ s : Fin 10, s.val = t.val % 10 := ⟨⟨t.val % 10, by omega⟩, rfl⟩
  rw [after1_11, emb11 t i hi s hs, dv_point V c t i hi (fun l n => by rw [b6_at V c t i hi, b6_at V c t i hi, h6])]
  refine Fin.sum_fin_congr fun l => ?_
  exact congrArg₂ (· * ·) (b4_at V c t i hi _ l) (bP_eq V c t i hi s hs l _)

/-- The head of a grid point. -/
def row (t : Fin cfg1.N) : Fin 48 := ⟨t.val / 10, by have : t.val < 480 := t.isLt.trans_eq N_1; omega⟩

include h5 h6 in
/-- The query gradient after the whole grid. -/
theorem final9 : (dat1 V c).arrAt 9 cfg1.N = fun j => ∑ s : Fin 10, AQ V c (j 0) (j 1) (j 2) s := by
  refine (dat1 V c).arrAt_eq_of_covers 9 _ (by decide +kernel) fun t hf y => ?_
  idx_vars y
  blk_simp
  have hy : y0 = 0 := Subsingleton.elim _ _
  subst hy
  have ht : t.val < 480 := t.isLt.trans_eq N_1
  have k6 := fun (t : Fin cfg1.N) l n => (show B6 V c t (ix3 0 l n) = B6 V c t (ix3 0 l 0) by rw [b6_at V c t (row t) rfl, b6_at V c t (row t) rfl, h6])
  have k5 := fun (t : Fin cfg1.N) l n => (show B5 V c t (ix3 0 l n) = B5 V c t (ix3 0 l 0) by rw [b5_at V c t (row t) rfl, b5_at V c t (row t) rfl, h5])
  have ej : ∀ j : S1x64x80.Idx, j = ix3 0 (j 1) (j 2) := fun j => (eq_ix3 j).trans (congrArg (fun z : Fin 1 => ix3 z (j 1) (j 2)) (Subsingleton.elim _ _))
  rw [after1_9, Pipeline.eq_sum_fin_of_reset_step_apply_of_flush (fun n h => (outsAt1 V c n h).1) 10 (fun _ => 0)
    (fun t (j : S1x64x80.Idx) => qTerm V c t (row t) (j 1) (j 2))
    (fun t h j => (congrArg _ (ej j)).trans (q_first V c t (row t) rfl (k6 t) (k5 t) h (j 1) (j 2)))
    (fun t h j => ((congrArg _ (ej j)).trans (q_next V c t (row t) rfl (k6 t) (k5 t) h (j 1) (j 2))).trans
      (congrArg (fun z => (outsAt1 V c (t.val - 1) (by omega)).1 z + qTerm V c t (row t) (j 1) (j 2)) (ej j).symm))
    t ((flush1_9 t).mp hf) _, zero_add, emb9 t (row t) rfl]
  refine Fin.sum_fin_congr fun s => ?_
  have hb := Pipeline.run_point_lt_of_flush t ((flush1_9 t).mp hf) s
  have hr : row ⟨10 * (t.val / 10) + s.val, hb⟩ = row t := Fin.ext (by show (10 * (t.val / 10) + s.val) / 10 = t.val / 10; omega)
  have hq := qTerm_eq V c ⟨10 * (t.val / 10) + s.val, hb⟩ (row ⟨10 * (t.val / 10) + s.val, hb⟩) rfl s
    (by show s.val = (10 * (t.val / 10) + s.val) % 10; omega) y1 y2
  exact hq.trans (congrArg (fun i => AQ V c i y1 y2 s) hr)
end
end Cert.KernelIdeal.Gen
end
-- ==== Proof.Host.lean ====
module
public import proofs.«01_k».proof.Proof.Gen.KernelIdeal.Frame
public import proofs.«01_k».proof.Proof.Main
public import Idealize.ShloMosaic.Lib.Pointwise
public import Idealize.ShloMosaic.Lib.Claim
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic Idealize.SL.Sem
open Idealize.ShloMosaic.Pipeline (Dat)

variable (W : Valuation τ sig (Elt Ideal))

/-- The sequence of row `i`. -/
def sq (i : Fin 48) : Fin 3 := ⟨i.val / 16, by omega⟩
/-- The row of sequence `b` and head `h`. -/
def bh (b : Fin 3) (h : Fin 16) : Fin 48 := ⟨b.val * 16 + h.val, by omega⟩

theorem sq_bh (b : Fin 3) (h : Fin 16) : sq (bh b h) = b := Fin.ext (by show (b.val * 16 + h.val) / 16 = b.val; omega)
theorem hd_bh (b : Fin 3) (h : Fin 16) : hd (bh b h) = h := Fin.ext (by show (b.val * 16 + h.val) % 16 = h.val; omega)

/-- Buffer `main_arg1`. -/
abbrev r_arg1 : Vec Ideal S3x40960x16x64 .fp8e4m3 := W (Proc.devRef .tc main_arg1)
/-- Buffer `main_arg3`. -/
abbrev r_arg3 : Vec Ideal S3x40960x16x64 .fp8e4m3 := W (Proc.devRef .tc main_arg3)
/-- Buffer `main_arg7`. -/
abbrev r_arg7 : Vec Ideal S3x80x16x64 .bf16 := W (Proc.devRef .tc main_arg7)
/-- Buffer `main_arg5`. -/
abbrev r_arg5 : Vec Ideal S3x80x16x64 .bf16 := W (Proc.devRef .tc main_arg5)
/-- Buffer `main_arg6`. -/
abbrev r_arg6 : Vec Ideal S3x16x80 .f32 := W (Proc.devRef .tc main_arg6)
/-- Buffer `main_arg0`. -/
abbrev r_arg0 : Vec Ideal S80x16x64 .bf16 := W (Proc.devRef .tc main_arg0)
/-- Buffer `main_arg2`. -/
abbrev r_arg2 : Vec Ideal S3x16 .f32 := W (Proc.devRef .tc main_arg2)
/-- Buffer `main_arg4`. -/
abbrev r_arg4 : Vec Ideal S3x16 .f32 := W (Proc.devRef .tc main_arg4)
/-- Buffer `main_v13_3`. -/
abbrev r_v13_3 : Vec Ideal S48x1x128 .f32 := W (Proc.devRef .tc main_v13_3)
/-- Buffer `main_v25_0`. -/
abbrev r_v25_0 : Vec Ideal S48x64x80 .f32 := W (Proc.devRef .tc main_v25_0)
/-- Buffer `main_v25_1`. -/
abbrev r_v25_1 : Vec Ideal S48x64x40960 .bf16 := W (Proc.devRef .tc main_v25_1)
/-- Buffer `main_v25_2`. -/
abbrev r_v25_2 : Vec Ideal S48x64x40960 .bf16 := W (Proc.devRef .tc main_v25_2)
/-- Buffer `main_v13_0`. -/
abbrev r_v13_0 : Vec Ideal S48x64x80 .fp8e5m2 := W (Proc.devRef .tc main_v13_0)
/-- Buffer `main_v15`. -/
abbrev r_v15 : Vec Ideal S48 .f32 := W (Proc.devRef .tc main_v15)

/-- The keys, one row per sequence and head. -/
theorem h0_v1 (i : Fin 48) (d : Fin 64) (n : Fin 40960) : (StableHlo.after (hostOps0 (F := Ideal)) W (Proc.devRef .tc main_v1) : Vec Ideal S48x64x40960 .fp8e4m3) (ix3 i d n)
    = r_arg1 W (ix4 (sq i) n (hd i) d) := by
  after_results
  pointwise [hlo_ix]
  blk_ext [hd, sq, bh]

/-- The values. -/
theorem h0_v3 (i : Fin 48) (d : Fin 64) (n : Fin 40960) : (StableHlo.after (hostOps0 (F := Ideal)) W (Proc.devRef .tc main_v3) : Vec Ideal S48x64x40960 .fp8e4m3) (ix3 i d n)
    = r_arg3 W (ix4 (sq i) n (hd i) d) := by
  after_results
  pointwise [hlo_ix]
  blk_ext [hd, sq, bh]

/-- The output gradient. -/
theorem h0_v5 (i : Fin 48) (d : Fin 64) (l : Fin 80) : (StableHlo.after (hostOps0 (F := Ideal)) W (Proc.devRef .tc main_v5) : Vec Ideal S48x64x80 .bf16) (ix3 i d l)
    = r_arg7 W (ix4 (sq i) l (hd i) d) := by
  after_results
  pointwise [hlo_ix]
  blk_ext [hd, sq, bh]

/-- The output. -/
theorem h0_v7 (i : Fin 48) (d : Fin 64) (l : Fin 80) : (StableHlo.after (hostOps0 (F := Ideal)) W (Proc.devRef .tc main_v7) : Vec Ideal S48x64x80 .bf16) (ix3 i d l)
    = r_arg5 W (ix4 (sq i) l (hd i) d) := by
  after_results
  pointwise [hlo_ix]
  blk_ext [hd, sq, bh]

/-- The log-sum-exp. -/
theorem h0_v12 (i : Fin 48) (l : Fin 80) : (StableHlo.after (hostOps0 (F := Ideal)) W (Proc.devRef .tc main_v12) : Vec Ideal S48x80x1 .f32) (ix3 i l 0)
    = r_arg6 W (ix3 (sq i) (hd i) l) := by
  after_results
  pointwise [hlo_ix]
  blk_ext [hd, sq, bh]

/-- The queries. -/
theorem h0_v9 (h : Fin 16) (l : Fin 80) (d : Fin 64) : (StableHlo.after (hostOps0 (F := Ideal)) W (Proc.devRef .tc main_v9) : Vec Ideal S16x80x64 .bf16) (ix3 h l d)
    = r_arg0 W (ix3 l h d) := by
  after_results
  pointwise [hlo_ix]

/-- The queries times an eighth. -/
theorem h0_v11 (h : Fin 16) (d : Fin 64) (l : Fin 80) : (StableHlo.after (hostOps0 (F := Ideal)) W (Proc.devRef .tc main_v11) : Vec Ideal S16x64x80 .bf16) (ix3 h d l)
    = r_arg0 W (ix3 l h d) * Ideal.ofBits .bf16 0x3E00#16 := by
  after_results
  pointwise [hlo_ix]

/-- The key scales. -/
theorem h1_v24_0 (i : Fin 48) : (StableHlo.after (hostOps1 (F := Ideal)) W (Proc.devRef .tc main_v24) : Vec Ideal S48x3 .f32) (ix2 i 0)
    = r_arg2 W (ix2 (sq i) (hd i)) := by
  after_results
  pointwise [hlo_ix]
  after_results_simp
  pointwise [hlo_ix]
  blk_ext [hd, sq, bh]

/-- The value scales times the gradient scales. -/
theorem h1_v24_1 (i : Fin 48) : (StableHlo.after (hostOps1 (F := Ideal)) W (Proc.devRef .tc main_v24) : Vec Ideal S48x3 .f32) (ix2 i 1)
    = r_arg4 W (ix2 (sq i) (hd i)) * r_v13_3 W (ix3 i 0 0) := by
  after_results
  pointwise [hlo_ix]
  after_results_simp
  pointwise [hlo_ix]
  blk_ext [hd, sq, bh]

/-- The key scales times an eighth. -/
theorem h1_v24_2 (i : Fin 48) : (StableHlo.after (hostOps1 (F := Ideal)) W (Proc.devRef .tc main_v24) : Vec Ideal S48x3 .f32) (ix2 i 2)
    = r_arg2 W (ix2 (sq i) (hd i)) * Ideal.ofBits .f32 0x3E000000#32 := by
  after_results
  pointwise [hlo_ix]
  after_results_simp
  pointwise [hlo_ix]
  blk_ext [hd, sq, bh]

/-- The gradient scales. -/
theorem h1_v15 (i : Fin 48) : (StableHlo.after (hostOps1 (F := Ideal)) W (Proc.devRef .tc main_v15) : Vec Ideal S48 .f32) (ix1 i)
    = r_v13_3 W (ix3 i 0 0) := by
  after_results
  pointwise [hlo_ix]
  blk_ext [hd, sq, bh]

/-- The query gradient by sequence. -/
theorem h2_v27 (b : Fin 3) (l : Fin 80) (h : Fin 16) (d : Fin 64) : (StableHlo.after (hostOps2 (F := Ideal)) W (Proc.devRef .tc main_v27) : Vec Ideal S3x80x16x64 .f32) (ix4 b l h d)
    = r_v25_0 W (ix3 (bh b h) d l) := by
  after_results
  pointwise [hlo_ix]
  blk_ext [hd, sq, bh]

/-- The query gradient, summed over the sequences. -/
theorem h2_v29 (l : Fin 80) (h : Fin 16) (d : Fin 64) : (StableHlo.after (hostOps2 (F := Ideal)) W (Proc.devRef .tc main_v29) : Vec Ideal S80x16x64 .bf16) (ix3 l h d)
    = ∑ b : Fin 3, r_v25_0 W (ix3 (bh b h) d l) := by
  after_results
  pointwise [hlo_ix]
  blk_ext [hd, sq, bh]

/-- The key gradient. -/
theorem h2_v31 (b : Fin 3) (n : Fin 40960) (h : Fin 16) (d : Fin 64) : (StableHlo.after (hostOps2 (F := Ideal)) W (Proc.devRef .tc main_v31) : Vec Ideal S3x40960x16x64 .bf16) (ix4 b n h d)
    = r_v25_1 W (ix3 (bh b h) d n) := by
  after_results
  pointwise [hlo_ix]
  blk_ext [hd, sq, bh]

/-- The value gradient. -/
theorem h2_v33 (b : Fin 3) (n : Fin 40960) (h : Fin 16) (d : Fin 64) : (StableHlo.after (hostOps2 (F := Ideal)) W (Proc.devRef .tc main_v33) : Vec Ideal S3x40960x16x64 .bf16) (ix4 b n h d)
    = r_v25_2 W (ix3 (bh b h) d n) := by
  after_results
  pointwise [hlo_ix]
  blk_ext [hd, sq, bh]

/-- The codes. -/
theorem h2_v35 (b : Fin 3) (l : Fin 80) (h : Fin 16) (d : Fin 64) : (StableHlo.after (hostOps2 (F := Ideal)) W (Proc.devRef .tc main_v35) : Vec Ideal S3x80x16x64 .fp8e5m2) (ix4 b l h d)
    = r_v13_0 W (ix3 (bh b h) d l) := by
  after_results
  pointwise [hlo_ix]
  blk_ext [hd, sq, bh]

/-- The scales. -/
theorem h2_v36 (b : Fin 3) (h : Fin 16) : (StableHlo.after (hostOps2 (F := Ideal)) W (Proc.devRef .tc main_v36) : Vec Ideal S3x16 .f32) (ix2 b h)
    = r_v15 W (ix1 (bh b h)) := by
  after_results
  pointwise [hlo_ix]
  blk_ext [hd, sq, bh]

end Cert.KernelIdeal.Gen
end
-- ==== Proof.Prep.lean ====
module
public import proofs.«01_k».proof.Proof.Gen.KernelIdeal.Frame
public import proofs.«01_k».proof.Proof.Spec
public import Idealize.ShloMosaic.Lib.Pointwise
public import Idealize.ShloMosaic.Lib.Claim
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b))
/-- One head of the gradient: 64 channels by 80 tokens. -/
abbrev Mat := Fin 64 → Fin 80 → EReal
/-- The largest absolute value of a head. -/
def mmax (X : Mat) : EReal :=
  Finset.univ.fold max (Ideal.ofBits .f32 0xFF800000#32) fun l : Fin 80 =>
    Finset.univ.fold max (Ideal.ofBits .f32 0xFF800000#32) fun d : Fin 64 =>
      FloatOps.absf (F := Ideal) (φ := .f32) (X d l)
/-- The power of two the kernel computes for a head. -/
def mscale (X : Mat) : EReal := Quant.kScale (mmax X * Ideal.ofBits .f32 0x37924925#32)
/-- The log-sum-exp in units of base two. -/
def mlse (x : EReal) : EReal := x * (((Real.log 2)⁻¹ : ℝ) : EReal)
/-- The code the kernel stores for channel `d` of token `l`. -/
def mcode (X : Mat) (d : Fin 64) (l : Fin 80) : EReal :=
  min (Ideal.ofBits .f32 0x47600000#32)
    (max (Ideal.ofBits .f32 0xC7600000#32) (X d l * Quant.kInv (mmax X * Ideal.ofBits .f32 0x37924925#32)))

section
variable (x0 x1 : Vec Ideal S1x64x80 .bf16) (x2 : Vec Ideal S1x80x1 .f32)

/-- The stored codes are the codes of the head. -/
theorem pay9_at (d : Fin 64) (l : Fin 80) : (k0_pay9 (k0_pay14 x0 x1 x2) (k0_pay16 x0 x1 x2)) (ix3 0 d l) = mcode (fun d l => x0 (ix3 0 d l)) d l := by
  unfold k0_pay14 k0_pay16
  frame_out
  pointwise [k0_pay9, k0_pay8, k0_pay7, k0_pay6, k0_pay5, k0_pay4, k0_pay3]
  rfl
/-- The transposed codes are the same codes. -/
theorem pay10_at (d : Fin 64) (l : Fin 80) : (k0_pay10 (k0_pay14 x0 x1 x2) (k0_pay16 x0 x1 x2)) (ix3 0 l d) = mcode (fun d l => x0 (ix3 0 d l)) d l := by
  unfold k0_pay14 k0_pay16
  frame_out
  pointwise [k0_pay10, k0_pay9, k0_pay8, k0_pay7, k0_pay6, k0_pay5, k0_pay4, k0_pay3]
  rfl
/-- The scaled codes are code times scale. -/
theorem pay11_at (d : Fin 64) (l : Fin 80) : (k0_pay11 (k0_pay14 x0 x1 x2) (k0_pay15 x0 x1 x2) (k0_pay16 x0 x1 x2)) (ix3 0 d l) = mcode (fun d l => x0 (ix3 0 d l)) d l * mscale (fun d l => x0 (ix3 0 d l)) := by
  unfold k0_pay14 k0_pay15 k0_pay16
  frame_out
  pointwise [k0_pay11, k0_pay10, k0_pay9, k0_pay8, k0_pay7, k0_pay6, k0_pay5, k0_pay4, k0_pay3]
  rfl
/-- The scale row holds the scale of the head. -/
theorem pay12_at (k : Fin 128) : (k0_pay12 (k0_pay15 x0 x1 x2)) (ix3 0 0 k) = mscale (fun d l => x0 (ix3 0 d l)) := by
  unfold k0_pay15
  frame_out
  pointwise [k0_pay12, k0_pay11, k0_pay10, k0_pay9, k0_pay8, k0_pay7, k0_pay6, k0_pay5, k0_pay4, k0_pay3]
  rfl
/-- The delta tile holds, for each token, the sum of scaled code times output. -/
theorem pay1_at (l : Fin 80) (k : Fin 128) : (k0_pay1 (k0_pay13 (k0_pay14 x0 x1 x2) (k0_pay15 x0 x1 x2) (k0_pay16 x0 x1 x2) x1)) (ix3 0 l k) = ∑ d : Fin 64, mcode (fun d l => x0 (ix3 0 d l)) d l * mscale (fun d l => x0 (ix3 0 d l)) * x1 (ix3 0 d l) := by
  unfold k0_pay14 k0_pay15 k0_pay16
  frame_out
  pointwise [k0_pay1, k0_pay13, k0_pay12, k0_pay11, k0_pay10, k0_pay9, k0_pay8, k0_pay7, k0_pay6, k0_pay5, k0_pay4, k0_pay3]
  rfl
/-- The rescaled log-sum-exp. -/
theorem pay2_at (l : Fin 80) (k : Fin 128) : (k0_pay2 x2) (ix3 0 l k) = mlse (x2 (ix3 0 l 0)) := by
  pointwise [k0_pay2]
  rfl
end
/-- Grid point `t` works on head `t` of every array. -/
theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] := (by decide +kernel : ∀ t : Fin grid0.N, _)
/-- The gradient block of point `t` is head `t`. -/
theorem pin0 (c : Dev nD) (t : Fin cfg0.N) (i : Fin 48) (hi : i.val = t.val) (d l) : iblk0 V c 0 t (ix3 0 d l) = V c main_v5 (ix3 i d l) := by
  unfold iblk0
  blk_simp
  blk_ext [idx0 t]
/-- The output block of point `t` is head `t`. -/
theorem pin1 (c : Dev nD) (t : Fin cfg0.N) (i : Fin 48) (hi : i.val = t.val) (d l) : iblk0 V c 1 t (ix3 0 d l) = V c main_v7 (ix3 i d l) := by
  unfold iblk0
  blk_simp
  blk_ext [idx0 t]
/-- The log-sum-exp block of point `t` is head `t`. -/
theorem pin2 (c : Dev nD) (t : Fin cfg0.N) (i : Fin 48) (hi : i.val = t.val) (l) : iblk0 V c 2 t (ix3 0 l 0) = V c main_v12 (ix3 i l 0) := by
  unfold iblk0
  blk_simp
  blk_ext [idx0 t]
/-- Where block `t` of the codes lies. -/
theorem emb3 (t : Fin cfg0.N) (i : Fin 48) (hi : i.val = t.val) (y0 y1 y2) :
    ((View.whole main_v13_0).slice (win0_3.rect t)).emb (ix3 y0 y1 y2) = ix3 i y1 y2 := by
  blk_ext [idx0 t]

/-- The codes after the whole grid. -/
theorem final3 (c : Dev nD) : (dat0 V c).arrAt 3 cfg0.N = fun j =>
    mcode (fun d l => V c main_v5 (ix3 (j 0) d l)) (j 1) (j 2) := by
  refine (dat0 V c).arrAt_eq_of_covers 3 _ (by decide +kernel) fun t _ y => ?_
  idx_vars y
  blk_simp
  rw [after0_3]; frame_out
  have hy : y0 = 0 := Subsingleton.elim _ _
  subst hy
  obtain ⟨i, hi⟩ : ∃ i : Fin 48, i.val = t.val := ⟨⟨t.val, t.isLt.trans_eq N_0⟩, rfl⟩
  rw [pay9_at, emb3 t i hi]
  simp only [pin0 V c t i hi, pin1 V c t i hi, pin2 V c t i hi]
  rfl

/-- Where block `t` of the transposed codes lies. -/
theorem emb4 (t : Fin cfg0.N) (i : Fin 48) (hi : i.val = t.val) (y0 y1 y2) :
    ((View.whole main_v13_1).slice (win0_4.rect t)).emb (ix3 y0 y1 y2) = ix3 i y1 y2 := by
  blk_ext [idx0 t]

/-- The transposed codes after the whole grid. -/
theorem final4 (c : Dev nD) : (dat0 V c).arrAt 4 cfg0.N = fun j =>
    mcode (fun d l => V c main_v5 (ix3 (j 0) d l)) (j 2) (j 1) := by
  refine (dat0 V c).arrAt_eq_of_covers 4 _ (by decide +kernel) fun t _ y => ?_
  idx_vars y
  blk_simp
  rw [after0_4]; frame_out
  have hy : y0 = 0 := Subsingleton.elim _ _
  subst hy
  obtain ⟨i, hi⟩ : ∃ i : Fin 48, i.val = t.val := ⟨⟨t.val, t.isLt.trans_eq N_0⟩, rfl⟩
  rw [pay10_at, emb4 t i hi]
  simp only [pin0 V c t i hi, pin1 V c t i hi, pin2 V c t i hi]
  rfl

/-- Where block `t` of the scaled codes lies. -/
theorem emb5 (t : Fin cfg0.N) (i : Fin 48) (hi : i.val = t.val) (y0 y1 y2) :
    ((View.whole main_v13_2).slice (win0_5.rect t)).emb (ix3 y0 y1 y2) = ix3 i y1 y2 := by
  blk_ext [idx0 t]

/-- The scaled codes after the whole grid. -/
theorem final5 (c : Dev nD) : (dat0 V c).arrAt 5 cfg0.N = fun j =>
    mcode (fun d l => V c main_v5 (ix3 (j 0) d l)) (j 1) (j 2) * mscale (fun d l => V c main_v5 (ix3 (j 0) d l)) := by
  refine (dat0 V c).arrAt_eq_of_covers 5 _ (by decide +kernel) fun t _ y => ?_
  idx_vars y
  blk_simp
  rw [after0_5]; frame_out
  have hy : y0 = 0 := Subsingleton.elim _ _
  subst hy
  obtain ⟨i, hi⟩ : ∃ i : Fin 48, i.val = t.val := ⟨⟨t.val, t.isLt.trans_eq N_0⟩, rfl⟩
  rw [pay11_at, emb5 t i hi]
  simp only [pin0 V c t i hi, pin1 V c t i hi, pin2 V c t i hi]
  rfl

/-- Where block `t` of the scales lies. -/
theorem emb6 (t : Fin cfg0.N) (i : Fin 48) (hi : i.val = t.val) (y0 y1 y2) :
    ((View.whole main_v13_3).slice (win0_6.rect t)).emb (ix3 y0 y1 y2) = ix3 i y1 y2 := by
  blk_ext [idx0 t]

/-- The scales after the whole grid. -/
theorem final6 (c : Dev nD) : (dat0 V c).arrAt 6 cfg0.N = fun j =>
    mscale (fun d l => V c main_v5 (ix3 (j 0) d l)) := by
  refine (dat0 V c).arrAt_eq_of_covers 6 _ (by decide +kernel) fun t _ y => ?_
  idx_vars y
  blk_simp
  rw [after0_6]; frame_out
  have hy : y0 = 0 := Subsingleton.elim _ _
  subst hy
  have hy : y1 = 0 := Subsingleton.elim _ _
  subst hy
  obtain ⟨i, hi⟩ : ∃ i : Fin 48, i.val = t.val := ⟨⟨t.val, t.isLt.trans_eq N_0⟩, rfl⟩
  rw [pay12_at, emb6 t i hi]
  simp only [pin0 V c t i hi, pin1 V c t i hi, pin2 V c t i hi]
  rfl

/-- Where block `t` of the delta tile lies. -/
theorem emb7 (t : Fin cfg0.N) (i : Fin 48) (hi : i.val = t.val) (y0 y1 y2) :
    ((View.whole main_v13_4).slice (win0_7.rect t)).emb (ix3 y0 y1 y2) = ix3 i y1 y2 := by
  blk_ext [idx0 t]

/-- The delta tile after the whole grid. -/
theorem final7 (c : Dev nD) : (dat0 V c).arrAt 7 cfg0.N = fun j =>
    ∑ d : Fin 64, mcode (fun d l => V c main_v5 (ix3 (j 0) d l)) d (j 1) * mscale (fun d l => V c main_v5 (ix3 (j 0) d l)) * V c main_v7 (ix3 (j 0) d (j 1)) := by
  refine (dat0 V c).arrAt_eq_of_covers 7 _ (by decide +kernel) fun t _ y => ?_
  idx_vars y
  blk_simp
  rw [after0_7]; frame_out
  have hy : y0 = 0 := Subsingleton.elim _ _
  subst hy
  obtain ⟨i, hi⟩ : ∃ i : Fin 48, i.val = t.val := ⟨⟨t.val, t.isLt.trans_eq N_0⟩, rfl⟩
  rw [pay1_at, emb7 t i hi]
  simp only [pin0 V c t i hi, pin1 V c t i hi, pin2 V c t i hi]
  rfl

/-- Where block `t` of the rescaled log-sum-exp lies. -/
theorem emb8 (t : Fin cfg0.N) (i : Fin 48) (hi : i.val = t.val) (y0 y1 y2) :
    ((View.whole main_v13_5).slice (win0_8.rect t)).emb (ix3 y0 y1 y2) = ix3 i y1 y2 := by
  blk_ext [idx0 t]

/-- The rescaled log-sum-exp after the whole grid. -/
theorem final8 (c : Dev nD) : (dat0 V c).arrAt 8 cfg0.N = fun j =>
    mlse (V c main_v12 (ix3 (j 0) (j 1) 0)) := by
  refine (dat0 V c).arrAt_eq_of_covers 8 _ (by decide +kernel) fun t _ y => ?_
  idx_vars y
  blk_simp
  rw [after0_8]; frame_out
  have hy : y0 = 0 := Subsingleton.elim _ _
  subst hy
  obtain ⟨i, hi⟩ : ∃ i : Fin 48, i.val = t.val := ⟨⟨t.val, t.isLt.trans_eq N_0⟩, rfl⟩
  rw [pay2_at, emb8 t i hi]
  simp only [pin0 V c t i hi, pin1 V c t i hi, pin2 V c t i hi]
  rfl

end Cert.KernelIdeal.Gen
end
-- ==== Proof.Algebra.lean ====
/- Laws of the extended reals the two programs differ by: a nonnegative finite factor moves through a sum, and a
   base-two exponential of a multiple of 1/ln 2 is an exponential. -/
module

public import Idealize.ShloMosaic.PureOps.Ideal

@[expose] public section

noncomputable section

namespace Cert.Algebra

open Idealize.ShloMosaic

/-- A nonnegative finite factor moves into a finite sum. -/
theorem mul_sum {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same, the factor on the right. -/
theorem sum_mul {ι : Type*} (s : Finset ι) (c : EReal) (h0 : 0 ≤ c) (ht : c ≠ ⊤) (f : ι → EReal) :
    (∑ i ∈ s, f i) * c = ∑ i ∈ s, f i * c := by
  rw [mul_comm, mul_sum s c h0 ht]
  exact Finset.sum_congr rfl fun i _ => mul_comm _ _

/-- The two named constants: 1/ln 2 and an eighth of it. -/
theorem log2e_pos : (0 : ℝ) < (Real.log 2)⁻¹ := inv_pos.mpr (Real.log_pos one_lt_two)

/-- A positive finite factor moves out of a difference. -/
theorem sub_mul_pos (c : ℝ) (hc : 0 < c) (x y : EReal) : x * (c : EReal) - y * (c : EReal) = (x - y) * (c : EReal) := by
  rw [sub_eq_add_neg, sub_eq_add_neg, mul_comm x, mul_comm y, mul_comm (x + -y),
    EReal.left_distrib_of_nonneg_of_ne_top (by exact_mod_cast hc.le) (EReal.coe_ne_top c), mul_neg]

/-- Two to the power `z / ln 2` is the exponential of `z`. -/
theorem exp2_mul_log2e (z : EReal) : Ideal.exp2 (z * (((Real.log 2)⁻¹ : ℝ) : EReal)) = Ideal.exp z := by
  induction z using EReal.rec with
  | bot => rw [EReal.bot_mul_coe_of_pos log2e_pos]; rfl
  | top => rw [EReal.top_mul_coe_of_pos log2e_pos]; rfl
  | coe r =>
    rw [← EReal.coe_mul]
    show (((2 : ℝ) ^ (r * (Real.log 2)⁻¹) : ℝ) : EReal) = ((Real.exp r : ℝ) : EReal)
    congr 1
    rw [Real.rpow_def_of_pos two_pos]
    congr 1
    have := (Real.log_pos one_lt_two).ne'
    field_simp

/-- The kernel's softmax weight is the reference's: scores scaled by `k · (1/8)/ln 2`, less `lse/ln 2`, under the
base-two exponential. -/
theorem softmax (s k l : EReal) :
    Ideal.exp2 (s * (k * ((8⁻¹ * (Real.log 2)⁻¹ : ℝ) : EReal)) - l * (((Real.log 2)⁻¹ : ℝ) : EReal))
      = Ideal.exp (((8⁻¹ : ℝ) : EReal) * k * s - l) := by
  rw [← exp2_mul_log2e, ← sub_mul_pos _ log2e_pos, EReal.coe_mul]
  congr 2
  ac_rfl

end Cert.Algebra

end
-- ==== Proof.Value.lean ====
module
public import proofs.«01_k».proof.Proof.Gen.KernelIdeal.Frame
public import proofs.«01_k».proof.Proof.Host
public import proofs.«01_k».proof.Proof.Prep
public import proofs.«01_k».proof.Proof.Spec
public import proofs.«01_k».proof.Proof.Algebra
public import Idealize.ShloMosaic.Lib.Pointwise
public import Idealize.ShloMosaic.Lib.Claim
public import Idealize.ShloMosaic.Lib.Pipeline.ValueKit
@[expose] public section
set_option maxRecDepth 16384
noncomputable section

/-! The kernel's results, index by index: each is the specification's formula of the arguments. -/

namespace Cert.KernelIdeal.Gen
open Idealize.ShloMosaic Idealize.ShloMosaic.TcCoe Idealize.ShloMosaic.Tactic Idealize.SL.Sem
open Idealize.ShloMosaic.Pipeline (Dat)

/-- What the precondition says of the key scales and of the gradient's largest magnitudes. -/
structure Ok (ks : Spec.Per) (G : Spec.Out) : Prop where
  ks0 : ∀ b h, 0 ≤ ks (ix2 b h)
  kst : ∀ b h, ks (ix2 b h) ≠ ⊤
  max : ∀ b h, Spec.amax G b h ≤ Ideal.ofBits .f32 0x7F7F0000#32
  tiny : ∀ b h, Spec.amax G b h = 0 ∨ Ideal.ofBits .f32 0x00800000#32 ≤ Spec.amax G b h * Ideal.ofBits .f32 0x37924925#32

/-- An eighth, as a 32 bit number. -/
theorem eighth32 : Ideal.ofBits .f32 0x3E000000#32 = ((8⁻¹ : ℝ) : EReal) := by
  simp [Ideal.ofBits, Ideal.ieee, -EReal.coe_mul]; norm_num
/-- An eighth, as a 16 bit number. -/
theorem eighth16 : Ideal.ofBits .bf16 0x3E00#16 = ((8⁻¹ : ℝ) : EReal) := by
  simp [Ideal.ofBits, Ideal.ieee, -EReal.coe_mul]; norm_num
theorem eighth_nonneg : (0 : EReal) ≤ ((8⁻¹ : ℝ) : EReal) := by
  rw [← EReal.coe_zero, EReal.coe_le_coe_iff]; norm_num

section
variable (m : (ℓ : Loc nD τ sig) → Buf (Elt Ideal) ℓ) (ρ : Dev nD → PrngReg) (c : Dev nD)

/-- The latent queries. -/
abbrev gQ : Spec.Lat := m ((c : Thread nD τ).loc main_arg0)
/-- The keys. -/
abbrev gK : Spec.Seq := m ((c : Thread nD τ).loc main_arg1)
/-- The key scales. -/
abbrev gks : Spec.Per := m ((c : Thread nD τ).loc main_arg2)
/-- The values. -/
abbrev gV : Spec.Seq := m ((c : Thread nD τ).loc main_arg3)
/-- The value scales. -/
abbrev gvs : Spec.Per := m ((c : Thread nD τ).loc main_arg4)
/-- The output. -/
abbrev gO : Spec.Out := m ((c : Thread nD τ).loc main_arg5)
/-- The log-sum-exp. -/
abbrev gL : Spec.Lse := m ((c : Thread nD τ).loc main_arg6)
/-- The gradient of the output. -/
abbrev gG : Spec.Out := m ((c : Thread nD τ).loc main_arg7)

/-- The gradient of one row, as a matrix. -/
def mat (G : Spec.Out) (b : Fin 3) (h : Fin 16) : Mat := fun d l => G (ix4 b l h d)

/-- The first kernel reads the gradient row by row. -/
theorem x5 (i : Fin 48) : (fun d l => V1 m ρ c main_v5 (ix3 i d l)) = mat (gG m c) (sq i) (hd i) :=
  funext fun d => funext fun l => h0_v5 (W0 m ρ c) i d l

variable {m c} (ok : Ok (gks m c) (gG m c))
include ok

/-- The first kernel's scale is the reference's. -/
theorem mscale_eq (b : Fin 3) (h : Fin 16) : mscale (mat (gG m c) b h) = Spec.scale (gG m c) b h :=
  (Quant.quant _ (ok.max b h) (ok.tiny b h)).1
/-- The first kernel's code is the reference's. -/
theorem mcode_eq (b : Fin 3) (h : Fin 16) (d : Fin 64) (l : Fin 80) :
    mcode (mat (gG m c) b h) d l = Spec.code (gG m c) b l h d :=
  congrArg (fun z => min (Ideal.ofBits .f32 0x47600000#32) (max (Ideal.ofBits .f32 0xC7600000#32) (gG m c (ix4 b l h d) * z)))
    (Quant.quant _ (ok.max b h) (ok.tiny b h)).2.1
theorem scale_nonneg (b : Fin 3) (h : Fin 16) : 0 ≤ Spec.scale (gG m c) b h :=
  (Quant.quant _ (ok.max b h) (ok.tiny b h)).2.2.1
theorem scale_ne_top (b : Fin 3) (h : Fin 16) : Spec.scale (gG m c) b h ≠ ⊤ :=
  (Quant.quant _ (ok.max b h) (ok.tiny b h)).2.2.2

/-! What the second kernel reads. -/

omit ok in
theorem a1 (i : Fin 48) (d : Fin 64) (n : Fin 40960) : A1 (V3 m ρ) c (ix3 i d n) = gK m c (ix4 (sq i) n (hd i) d) :=
  (congrFun ((W3_of m ρ c main_v1 (by decide)).trans (W2_of m ρ c main_v1 (by decide))) _).trans (h0_v1 (W0 m ρ c) i d n)
omit ok in
theorem a3 (i : Fin 48) (d : Fin 64) (n : Fin 40960) : A3 (V3 m ρ) c (ix3 i d n) = gV m c (ix4 (sq i) n (hd i) d) :=
  (congrFun ((W3_of m ρ c main_v3 (by decide)).trans (W2_of m ρ c main_v3 (by decide))) _).trans (h0_v3 (W0 m ρ c) i d n)
omit ok in
theorem a9 (h : Fin 16) (l : Fin 80) (d : Fin 64) : A9 (V3 m ρ) c (ix3 h l d) = gQ m c (ix3 l h d) :=
  (congrFun ((W3_of m ρ c main_v9 (by decide)).trans (W2_of m ρ c main_v9 (by decide))) _).trans (h0_v9 (W0 m ρ c) h l d)
omit ok in
theorem a11 (h : Fin 16) (d : Fin 64) (l : Fin 80) : A11 (V3 m ρ) c (ix3 h d l) = gQ m c (ix3 l h d) * ((8⁻¹ : ℝ) : EReal) :=
  (congrFun ((W3_of m ρ c main_v11 (by decide)).trans (W2_of m ρ c main_v11 (by decide))) _).trans
    ((h0_v11 (W0 m ρ c) h d l).trans (congrArg (gQ m c (ix3 l h d) * ·) eighth16))
theorem a13_1 (i : Fin 48) (l : Fin 80) (d : Fin 64) : A13_1 (V3 m ρ) c (ix3 i l d) = Spec.code (gG m c) (sq i) l (hd i) d :=
  (congrFun ((W3_of m ρ c main_v13_1 (by decide)).trans ((W2_arr m ρ c 4).trans (final4 (V1 m ρ) c))) _).trans
    ((congrArg (fun X => mcode X d l) (x5 m ρ c i)).trans (mcode_eq ok _ _ d l))
theorem a13_2 (i : Fin 48) (d : Fin 64) (l : Fin 80) : A13_2 (V3 m ρ) c (ix3 i d l)
    = Spec.code (gG m c) (sq i) l (hd i) d * Spec.scale (gG m c) (sq i) (hd i) :=
  (congrFun ((W3_of m ρ c main_v13_2 (by decide)).trans ((W2_arr m ρ c 5).trans (final5 (V1 m ρ) c))) _).trans
    ((congrArg (fun X => mcode X d l * mscale X) (x5 m ρ c i)).trans
      (congrArg₂ (· * ·) (mcode_eq ok _ _ d l) (mscale_eq ok _ _)))
theorem r13_3 (i : Fin 48) : r_v13_3 (W2 m ρ c) (ix3 i 0 0) = Spec.scale (gG m c) (sq i) (hd i) :=
  (congrFun ((W2_arr m ρ c 6).trans (final6 (V1 m ρ) c)) _).trans
    ((congrArg mscale (x5 m ρ c i)).trans (mscale_eq ok _ _))
theorem a13_4 (i : Fin 48) (l : Fin 80) (n : Fin 128) : A13_4 (V3 m ρ) c (ix3 i l n) = Spec.delta (gO m c) (gG m c) (sq i) (hd i) l :=
  (congrFun ((W3_of m ρ c main_v13_4 (by decide)).trans ((W2_arr m ρ c 7).trans (final7 (V1 m ρ) c))) _).trans
    ((congrArg (fun X : Mat => ∑ d : Fin 64, mcode X d l * mscale X * V1 m ρ c main_v7 (ix3 i d l)) (x5 m ρ c i)).trans
      (Finset.sum_congr rfl fun d _ => congrArg₂ (· * ·) (congrArg₂ (· * ·) (mcode_eq ok _ _ d l) (mscale_eq ok _ _))
        (h0_v7 (W0 m ρ c) i d l)))
omit ok in
theorem a13_5 (i : Fin 48) (l : Fin 80) (n : Fin 128) : A13_5 (V3 m ρ) c (ix3 i l n)
    = gL m c (ix3 (sq i) (hd i) l) * (((Real.log 2)⁻¹ : ℝ) : EReal) :=
  (congrFun ((W3_of m ρ c main_v13_5 (by decide)).trans ((W2_arr m ρ c 8).trans (final8 (V1 m ρ) c))) _).trans
    (congrArg mlse (h0_v12 (W0 m ρ c) i l))
omit ok in
theorem a24_0 (i : Fin 48) : A24 (V3 m ρ) c (ix2 i 0) = gks m c (ix2 (sq i) (hd i)) :=
  (h1_v24_0 (W2 m ρ c) i).trans (congrFun (W2_args m ρ c main_arg2 (by decide)) _)
theorem a24_1 (i : Fin 48) : A24 (V3 m ρ) c (ix2 i 1) = gvs m c (ix2 (sq i) (hd i)) * Spec.scale (gG m c) (sq i) (hd i) :=
  (h1_v24_1 (W2 m ρ c) i).trans
    (congrArg₂ (fun x y : EReal => x * y) (congrFun (W2_args m ρ c main_arg4 (by decide)) _) (r13_3 ρ ok i))
omit ok in
theorem a24_2 (i : Fin 48) : A24 (V3 m ρ) c (ix2 i 2) = gks m c (ix2 (sq i) (hd i)) * ((8⁻¹ : ℝ) : EReal) :=
  (h1_v24_2 (W2 m ρ c) i).trans
    (congrArg₂ (fun x y : EReal => x * y) (congrFun (W2_args m ρ c main_arg2 (by decide)) _) eighth32)

/-- The attention probability. -/
abbrev gP (m : (ℓ : Loc nD τ sig) → Buf (Elt Ideal) ℓ) (c : Dev nD) := Spec.prob (gQ m c) (gK m c) (gks m c) (gL m c)
/-- The gradient of the score. -/
abbrev gD (m : (ℓ : Loc nD τ sig) → Buf (Elt Ideal) ℓ) (c : Dev nD) :=
  Spec.dscore (gQ m c) (gK m c) (gks m c) (gV m c) (gvs m c) (gO m c) (gL m c) (gG m c)

omit ok in
/-- The second kernel's probability is the reference's. -/
theorem AP_eq (i : Fin 48) (l : Fin 80) (n : Fin 40960) : AP (V3 m ρ) c i l n = gP m c (sq i) (hd i) l n := by
  unfold AP gP Spec.prob Spec.eighth
  rw [a24_0, a13_5, eighth32, Algebra.softmax]
  refine congrArg (fun z => Ideal.exp (_ * _ * z - _)) (Finset.sum_congr rfl fun d _ => ?_)
  rw [a9, a1, mul_comm]

/-- The second kernel's score gradient is the reference's. -/
theorem AD_eq (i : Fin 48) (l : Fin 80) (n : Fin 40960) : AD (V3 m ρ) c i l n = gD m c (sq i) (hd i) l n := by
  unfold AD gD Spec.dscore Spec.dprob
  rw [AP_eq, a24_1 ρ ok, a13_4 ρ ok, mul_comm (gvs m c _)]
  rw [mul_comm (∑ d : Fin 64, _)]
  refine congrArg (fun z => _ * (_ * z - _)) (Finset.sum_congr rfl fun d _ => ?_)
  rw [a13_1 ρ ok, a3]

/-! The arrays the second kernel leaves. -/

theorem h5' (i : Fin 48) (l : Fin 80) (n : Fin 128) : A13_4 (V3 m ρ) c (ix3 i l n) = A13_4 (V3 m ρ) c (ix3 i l 0) :=
  (a13_4 ρ ok i l n).trans (a13_4 ρ ok i l 0).symm
omit ok in
theorem h6' (i : Fin 48) (l : Fin 80) (n : Fin 128) : A13_5 (V3 m ρ) c (ix3 i l n) = A13_5 (V3 m ρ) c (ix3 i l 0) :=
  (a13_5 ρ i l n).trans (a13_5 ρ i l 0).symm

/-- The query gradient of one row. -/
theorem o0 (i : Fin 48) (d : Fin 64) (l : Fin 80) : r_v25_0 (W4 m ρ c) (ix3 i d l)
    = Spec.dqSeq (gQ m c) (gK m c) (gks m c) (gV m c) (gvs m c) (gO m c) (gL m c) (gG m c) (sq i) l (hd i) d := by
  refine (congrFun ((W4_arr m ρ c 9).trans (final9 (V3 m ρ) c (h5' ρ ok) (h6' ρ))) _).trans ?_
  show ∑ s : Fin 10, AQ (V3 m ρ) c i d l s = _
  have h0 : (0 : EReal) ≤ gks m c (ix2 (sq i) (hd i)) * ((8⁻¹ : ℝ) : EReal) := mul_nonneg (ok.ks0 _ _) eighth_nonneg
  have ht : gks m c (ix2 (sq i) (hd i)) * ((8⁻¹ : ℝ) : EReal) ≠ ⊤ := by
    have hb : gks m c (ix2 (sq i) (hd i)) ≠ ⊥ := fun e => by
      have := ok.ks0 (sq i) (hd i); rw [e] at this; exact absurd this (by simp)
    rw [← EReal.coe_toReal (ok.kst _ _) hb, ← EReal.coe_mul]
    exact EReal.coe_ne_top _
  have e : ∀ s : Fin 10, AQ (V3 m ρ) c i d l s
      = (∑ n : Fin 4096, gK m c (ix4 (sq i) (key s n) (hd i) d) * gD m c (sq i) (hd i) l (key s n))
        * (gks m c (ix2 (sq i) (hd i)) * ((8⁻¹ : ℝ) : EReal)) := fun s => by
    unfold AQ
    rw [a24_2]
    refine congrArg (· * _) (Finset.sum_congr rfl fun n _ => ?_)
    rw [a1, AD_eq ρ ok]
  rw [Finset.sum_congr rfl fun s _ => e s, ← Algebra.sum_mul _ _ h0 ht, mul_comm, mul_comm (gks m c _)]
  unfold Spec.dqSeq Spec.eighth
  rw [eighth32]
  exact congrArg (_ * _ * ·) (Fin.sum_mul_add_fin 10 4096 fun t : Fin 40960 =>
    gK m c (ix4 (sq i) t (hd i) d) * gD m c (sq i) (hd i) l t)

/-- The key gradient of one row. -/
theorem o1 (i : Fin 48) (d : Fin 64) (n : Fin 40960) : r_v25_1 (W4 m ρ c) (ix3 i d n)
    = Spec.dk (gQ m c) (gK m c) (gks m c) (gV m c) (gvs m c) (gO m c) (gL m c) (gG m c) (sq i) n (hd i) d := by
  refine (congrFun ((W4_arr m ρ c 10).trans (final10 (V3 m ρ) c (h5' ρ ok) (h6' ρ))) _).trans ?_
  show ∑ l : Fin 80, A11 (V3 m ρ) c (ix3 (hd i) d l) * AD (V3 m ρ) c i l n = _
  unfold Spec.dk Spec.eighth
  rw [eighth32, Algebra.mul_sum _ _ eighth_nonneg (EReal.coe_ne_top _)]
  refine Finset.sum_congr rfl fun l _ => ?_
  rw [a11, AD_eq ρ ok, mul_comm (gQ m c _), mul_assoc]

/-- The value gradient of one row. -/
theorem o2 (i : Fin 48) (d : Fin 64) (n : Fin 40960) : r_v25_2 (W4 m ρ c) (ix3 i d n)
    = Spec.dv (gQ m c) (gK m c) (gks m c) (gL m c) (gG m c) (sq i) n (hd i) d := by
  refine (congrFun ((W4_arr m ρ c 11).trans (final11 (V3 m ρ) c (h6' ρ))) _).trans ?_
  show ∑ l : Fin 80, A13_2 (V3 m ρ) c (ix3 i d l) * AP (V3 m ρ) c i l n = _
  unfold Spec.dv
  rw [Algebra.mul_sum _ _ (scale_nonneg ok _ _) (scale_ne_top ok _ _)]
  refine Finset.sum_congr rfl fun l _ => ?_
  rw [a13_2 ρ ok, AP_eq, mul_comm (Spec.code _ _ _ _ _), mul_assoc]

/-! The results. -/

/-- The query gradient, summed over the sequences. -/
theorem res_dq (l : Fin 80) (h : Fin 16) (d : Fin 64) : (W5 m ρ c (Proc.devRef .tc main_v29) : Vec Ideal S80x16x64 .bf16) (ix3 l h d)
    = ∑ b : Fin 3, Spec.dqSeq (gQ m c) (gK m c) (gks m c) (gV m c) (gvs m c) (gO m c) (gL m c) (gG m c) b l h d :=
  (h2_v29 (W4 m ρ c) l h d).trans (Fin.sum_fin_congr fun b => by rw [o0 ρ ok, sq_bh, hd_bh])
/-- The query gradient by sequence. -/
theorem res_dqSeq (b : Fin 3) (l : Fin 80) (h : Fin 16) (d : Fin 64) : (W5 m ρ c (Proc.devRef .tc main_v27) : Vec Ideal S3x80x16x64 .f32) (ix4 b l h d)
    = Spec.dqSeq (gQ m c) (gK m c) (gks m c) (gV m c) (gvs m c) (gO m c) (gL m c) (gG m c) b l h d :=
  (h2_v27 (W4 m ρ c) b l h d).trans (by rw [o0 ρ ok, sq_bh, hd_bh])
/-- The key gradient. -/
theorem res_dk (b : Fin 3) (n : Fin 40960) (h : Fin 16) (d : Fin 64) : (W5 m ρ c (Proc.devRef .tc main_v31) : Vec Ideal S3x40960x16x64 .bf16) (ix4 b n h d)
    = Spec.dk (gQ m c) (gK m c) (gks m c) (gV m c) (gvs m c) (gO m c) (gL m c) (gG m c) b n h d :=
  (h2_v31 (W4 m ρ c) b n h d).trans (by rw [o1 ρ ok, sq_bh, hd_bh])
/-- The value gradient. -/
theorem res_dv (b : Fin 3) (n : Fin 40960) (h : Fin 16) (d : Fin 64) : (W5 m ρ c (Proc.devRef .tc main_v33) : Vec Ideal S3x40960x16x64 .bf16) (ix4 b n h d)
    = Spec.dv (gQ m c) (gK m c) (gks m c) (gL m c) (gG m c) b n h d :=
  (h2_v33 (W4 m ρ c) b n h d).trans (by rw [o2 ρ ok, sq_bh, hd_bh])
/-- The codes. -/
theorem res_code (b : Fin 3) (l : Fin 80) (h : Fin 16) (d : Fin 64) : (W5 m ρ c (Proc.devRef .tc main_v35) : Vec Ideal S3x80x16x64 .fp8e5m2) (ix4 b l h d)
    = Spec.code (gG m c) b l h d := by
  refine (h2_v35 (W4 m ρ c) b l h d).trans ((congrFun ((W4_of m ρ c main_v13_0 (by decide)).trans
    ((W3_of m ρ c main_v13_0 (by decide)).trans ((W2_arr m ρ c 3).trans (final3 (V1 m ρ) c)))) _).trans
    ((congrArg (fun X => mcode X d l) (x5 m ρ c (bh b h))).trans ((mcode_eq ok _ _ d l).trans ?_)))
  rw [sq_bh, hd_bh]
/-- The scales. -/
theorem res_scale (b : Fin 3) (h : Fin 16) : (W5 m ρ c (Proc.devRef .tc main_v36) : Vec Ideal S3x16 .f32) (ix2 b h)
    = Spec.scale (gG m c) b h := by
  refine (h2_v36 (W4 m ρ c) b h).trans ((congrFun (W4_of m ρ c main_v15 (by decide)) _).trans
    ((h1_v15 (W2 m ρ c) (bh b h)).trans ((r13_3 ρ ok _).trans ?_)))
  rw [sq_bh, hd_bh]
end

end Cert.KernelIdeal.Gen
end
-- ==== Proof.Pre.lean ====
module
public import proofs.«01_k».proof.Defs
public import proofs.«01_k».proof.Proof.Value
public import proofs.«01_k».proof.Proof.RefValue
@[expose] public section
set_option maxRecDepth 16384
noncomputable section

/-! The precondition, read element by element. -/

namespace Cert.Proof
open Idealize.ShloMosaic Idealize.ShloMosaic.TcCoe Idealize.ShloMosaic.Tactic Idealize.SL.Sem

/-- The precondition's shape facts. -/
theorem preFacts : Cert.Pre_scales_in_range.Facts where
  bitsLt_bf16_f32 := by decide
  reducesTo_S3x80x16x64_S3x16_d1_3 := Cert.ReferenceIdeal.Gen.reducesTo_S3x80x16x64_S3x16_d1_3
  h_S_ := Cert.ReferenceIdeal.Gen.h_S_
  bcast_S_S3x16 := Cert.ReferenceIdeal.Gen.bcast_S_S3x16

/-- The infinity the precondition compares with. -/
theorem inf_eq : Ideal.ofBits .f32 0x7F800000#32 = ⊤ := by
  simp [Ideal.ofBits, Ideal.ieee]

/-- A conjunction of six comparison bits, the last two a disjunction, is one only if they all are. -/
theorem bits_and : ∀ p q r s t : Bool, (IntOp.andi (IntOp.andi (BitVec.ofBool p) (BitVec.ofBool q))
    (IntOp.andi (BitVec.ofBool r) (IntOp.ori (BitVec.ofBool s) (BitVec.ofBool t))) = 1#1) →
    p = true ∧ q = true ∧ r = true ∧ (s = true ∨ t = true) := by decide

instance : Cert.Pre_scales_in_range.Facts := preFacts

/-- What the precondition says of every sequence and head. -/
theorem pre_at (Q : Spec.Lat) (K : Spec.Seq) (ks : Spec.Per) (V : Spec.Seq) (vs : Spec.Per) (O : Spec.Out) (L : Spec.Lse) (G : Spec.Out)
    (h : Cert.Pre_scales_in_range.fn (F := Ideal) Q K ks V vs O L G = fun _ => 1#1) :
    Cert.KernelIdeal.Gen.Ok ks G := by
  have key : ∀ (b : Fin 3) (h' : Fin 16), Ideal.ofBits .f32 0x00000000#32 ≤ ks (ix2 b h') ∧ ks (ix2 b h') < Ideal.ofBits .f32 0x7F800000#32
      ∧ Cert.ReferenceIdeal.Gen.amaxA G (ix2 b h') ≤ Ideal.ofBits .f32 0x7F7F0000#32
      ∧ (Cert.ReferenceIdeal.Gen.amaxA G (ix2 b h') = Ideal.ofBits .f32 0x00000000#32
        ∨ Ideal.ofBits .f32 0x00800000#32 ≤ Cert.ReferenceIdeal.Gen.amaxA G (ix2 b h') * Ideal.ofBits .f32 0x37924925#32) := fun b h' => by
    have e := congrFun h (ix2 b h')
    rw [show Cert.Pre_scales_in_range.fn (F := Ideal) Q K ks V vs O L G = andi
      (andi (cmpf .oge (F := Ideal) (φ := .f32) ks (broadcastInDim Cert.Pre_scales_in_range.S3x16 ![] preFacts.bcast_S_S3x16 (constant Cert.Pre_scales_in_range.S_ .f32 0x00000000#32)))
        (cmpf .olt (F := Ideal) (φ := .f32) ks (broadcastInDim Cert.Pre_scales_in_range.S3x16 ![] preFacts.bcast_S_S3x16 (constant Cert.Pre_scales_in_range.S_ .f32 0x7F800000#32))))
      (andi (cmpf .ole (Cert.ReferenceIdeal.Gen.amaxA G) (broadcastInDim Cert.Pre_scales_in_range.S3x16 ![] preFacts.bcast_S_S3x16 (constant Cert.Pre_scales_in_range.S_ .f32 0x7F7F0000#32)))
        (ori (cmpf .oeq (Cert.ReferenceIdeal.Gen.amaxA G) (broadcastInDim Cert.Pre_scales_in_range.S3x16 ![] preFacts.bcast_S_S3x16 (constant Cert.Pre_scales_in_range.S_ .f32 0x00000000#32)))
          (cmpf .oge (mulf (Cert.ReferenceIdeal.Gen.amaxA G) (broadcastInDim Cert.Pre_scales_in_range.S3x16 ![] preFacts.bcast_S_S3x16 (constant Cert.Pre_scales_in_range.S_ .f32 0x37924925#32)))
            (broadcastInDim Cert.Pre_scales_in_range.S3x16 ![] preFacts.bcast_S_S3x16 (constant Cert.Pre_scales_in_range.S_ .f32 0x00800000#32))))) from rfl] at e
    generalize Cert.ReferenceIdeal.Gen.amaxA G = A at e ⊢
    have := bits_and _ _ _ _ _ e
    simp only [decide_eq_true_eq] at this
    exact this
  simp only [Cert.ReferenceIdeal.Gen.amax_at, inf_eq, show Ideal.ofBits .f32 0x00000000#32 = 0 by simp] at key
  exact ⟨fun b h' => (key b h').1, fun b h' => (key b h').2.1.ne, fun b h' => (key b h').2.2.1, fun b h' => (key b h').2.2.2⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.RefRun
public import proofs.«01_k».proof.Proof.Value
public import proofs.«01_k».proof.Proof.Pre
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

/-- From memories agreeing on the arguments, with scales in range, the kernel and the reference end with equal results
and unchanged arguments. -/
theorem algebraic : Cert.algebraic_KernelIdeal_ReferenceIdeal_pre_scales_in_range (hKernelIdeal := Cert.KernelIdeal.Gen.facts)
    (hReferenceIdeal := Cert.ReferenceIdeal.Gen.facts) (hPre_scales_in_range := preFacts) := by
  intro m g m' g' hpre hagree
  refine ⟨_, _, _, _, _, _, θ_run_mono (Cert.KernelIdeal.Gen.run m g) fun _ h => h.1, θ_run_mono (Cert.ReferenceIdeal.Gen.run m' g') fun r h c => ?_⟩
  obtain ⟨e0, e1, e2, e3, e4, e5, e6, e7⟩ := hagree c
  obtain ⟨k0, k1, k2, k3, k4, k5, ha⟩ := h c
  have ok := pre_at _ _ _ _ _ _ _ _ (hpre c)
  refine ⟨k0.trans ?_, k1.trans ?_, k2.trans ?_, k3.trans ?_, k4.trans ?_, k5.trans ?_, ha⟩ <;>
    simp only [Cert.ReferenceIdeal.Gen.gQ, Cert.ReferenceIdeal.Gen.gK, Cert.ReferenceIdeal.Gen.gks, Cert.ReferenceIdeal.Gen.gV,
      Cert.ReferenceIdeal.Gen.gvs, Cert.ReferenceIdeal.Gen.gO, Cert.ReferenceIdeal.Gen.gL, Cert.ReferenceIdeal.Gen.gG,
      e0, e1, e2, e3, e4, e5, e6, e7]
  · exact funext fun j => ((congrArg _ (eq_ix3 j)).trans (Cert.KernelIdeal.Gen.res_dq g ok (j 0) (j 1) (j 2))).symm
  · exact funext fun j => ((congrArg _ (eq_ix4 j)).trans (Cert.KernelIdeal.Gen.res_dqSeq g ok (j 0) (j 1) (j 2) (j 3))).symm
  · exact funext fun j => ((congrArg _ (eq_ix4 j)).trans (Cert.KernelIdeal.Gen.res_dk g ok (j 0) (j 1) (j 2) (j 3))).symm
  · exact funext fun j => ((congrArg _ (eq_ix4 j)).trans (Cert.KernelIdeal.Gen.res_dv g ok (j 0) (j 1) (j 2) (j 3))).symm
  · exact funext fun j => ((congrArg _ (eq_ix4 j)).trans (Cert.KernelIdeal.Gen.res_code g ok (j 0) (j 1) (j 2) (j 3))).symm
  · exact funext fun j => ((congrArg _ (eq_ix2 j)).trans (Cert.KernelIdeal.Gen.res_scale g ok (j 0) (j 1))).symm

/-- The certificate's claims: each program runs, leaves its arguments unchanged and every counter at zero, the
idealized kernel is the kernel with two constants named, and its results are the reference's. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    ⟨IdealRules.named_const.statement _ _ _ _ _ rfl, IdealRules.named_const.statement _ _ _ _ _ rfl⟩, algebraic⟩

end Cert.Proof

end
